-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_separated [hPre_separated : Cert.Pre_separated.Facts] (m : (ℓ : Loc Cert.KernelIdeal.nD Cert.KernelIdeal.τ Cert.KernelIdeal.sig) → Buf (Elt Ideal) ℓ) : Prop :=
  ∀ c : Dev Cert.KernelIdeal.nD,
    (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.1 = (fun _ => 1#1)
    ∧ (Cert.Pre_separated.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9))).2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_separated [hPre_separated : Cert.Pre_separated.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.1 = (fun _ => 1#1)
    ∧ (Cert.Pre_separated.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9))).2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_KernelIdeal_pre_separated [hKernelIdeal : Cert.KernelIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_separated m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def quiescent_ReferenceIdeal_pre_separated [hReferenceIdeal : Cert.ReferenceIdeal.Facts] [hPre_separated : Cert.Pre_separated.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_separated m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9))
      ∧ r.2.sem = fun _ => 0)

def preserves_Kernel_KernelIdeal : Prop :=
  True

def algebraic_KernelIdeal_ReferenceIdeal_pre_separated [hKernelIdeal : Cert.KernelIdeal.Facts] [hReferenceIdeal : Cert.ReferenceIdeal.Facts] [hPre_separated : Cert.Pre_separated.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_separated m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v68) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9))

def Claim : Prop :=
  ∃ (hKernel : Cert.Kernel.Facts) (hKernelIdeal : Cert.KernelIdeal.Facts) (hReferenceIdeal : Cert.ReferenceIdeal.Facts) (hPre_separated : Cert.Pre_separated.Facts),
    quiescent_Kernel (hKernel := hKernel)
    ∧ quiescent_KernelIdeal (hKernelIdeal := hKernelIdeal)
    ∧ quiescent_KernelIdeal_pre_separated (hKernelIdeal := hKernelIdeal) (hPre_separated := hPre_separated)
    ∧ quiescent_ReferenceIdeal (hReferenceIdeal := hReferenceIdeal)
    ∧ quiescent_ReferenceIdeal_pre_separated (hReferenceIdeal := hReferenceIdeal) (hPre_separated := hPre_separated)
    ∧ preserves_Kernel_KernelIdeal
    ∧ algebraic_KernelIdeal_ReferenceIdeal_pre_separated (hKernelIdeal := hKernelIdeal) (hReferenceIdeal := hReferenceIdeal) (hPre_separated := hPre_separated)
-- ==== Pre_separated.lean ====
abbrev S4x2048x3 : Shape := ⟨3, ![4, 2048, 3]⟩
abbrev S4x8192x3 : Shape := ⟨3, ![4, 8192, 3]⟩
abbrev S3x128 : Shape := ⟨2, ![3, 128]⟩
abbrev S128 : Shape := ⟨1, ![128]⟩
abbrev S128x128 : Shape := ⟨2, ![128, 128]⟩
abbrev S131x128 : Shape := ⟨2, ![131, 128]⟩
abbrev S128x3 : Shape := ⟨2, ![128, 3]⟩
abbrev S3 : Shape := ⟨1, ![3]⟩
abbrev S_ : Shape := ⟨0, ![]⟩
abbrev S4x2048 : Shape := ⟨2, ![4, 2048]⟩
abbrev S4x2048x1 : Shape := ⟨3, ![4, 2048, 1]⟩
abbrev S4x8192 : Shape := ⟨2, ![4, 8192]⟩
abbrev S4x1x8192 : Shape := ⟨3, ![4, 1, 8192]⟩
abbrev S4x2048x8192 : Shape := ⟨3, ![4, 2048, 8192]⟩
abbrev S4x2048x17 : Shape := ⟨3, ![4, 2048, 17]⟩
abbrev S4x2048x16 : Shape := ⟨3, ![4, 2048, 16]⟩
abbrev S4x2048x16x1 : Shape := ⟨4, ![4, 2048, 16, 1]⟩
abbrev S4x2048x1x16 : Shape := ⟨4, ![4, 2048, 1, 16]⟩
abbrev S4x2048x16x16 : Shape := ⟨4, ![4, 2048, 16, 16]⟩

class Facts : Prop where
  bcast_S_S4x8192x3 : S_.BroadcastsInDim S4x8192x3 (![] : Fin 0 → Fin S4x8192x3.rank)
  reducesTo_S4x2048x3_S4x2048_d2 : S4x2048x3.ReducesTo [2] S4x2048
  h_S_ : 0 < S_.numel
  bcast_S4x2048_S4x2048x1_0_1 : S4x2048.BroadcastsInDim S4x2048x1 (![0, 1] : Fin 2 → Fin S4x2048x1.rank)
  reducesTo_S4x8192x3_S4x8192_d2 : S4x8192x3.ReducesTo [2] S4x8192
  bcast_S4x8192_S4x1x8192_0_2 : S4x8192.BroadcastsInDim S4x1x8192 (![0, 2] : Fin 2 → Fin S4x1x8192.rank)
  bcast_S4x2048x1_S4x2048x8192_0_1_2 : S4x2048x1.BroadcastsInDim S4x2048x8192 (![0, 1, 2] : Fin 3 → Fin S4x2048x8192.rank)
  bcast_S4x1x8192_S4x2048x8192_0_1_2 : S4x1x8192.BroadcastsInDim S4x2048x8192 (![0, 1, 2] : Fin 3 → Fin S4x2048x8192.rank)
  bcast_S_S4x2048x8192 : S_.BroadcastsInDim S4x2048x8192 (![] : Fin 0 → Fin S4x2048x8192.rank)
  sliceFits_S4x2048x8192_S4x2048x17 : S4x2048x8192.Slices (fun _ => 0) S4x2048x17
  slices_S4x2048x17_S4x2048x16_0_0_0 : S4x2048x17.Slices ![0, 0, 0] S4x2048x16
  slices_S4x2048x17_S4x2048x16_0_0_1 : S4x2048x17.Slices ![0, 0, 1] S4x2048x16
  bcast_S_S4x2048x16 : S_.BroadcastsInDim S4x2048x16 (![] : Fin 0 → Fin S4x2048x16.rank)
  bcast_S4x2048x16_S4x2048x16x1_0_1_2 : S4x2048x16.BroadcastsInDim S4x2048x16x1 (![0, 1, 2] : Fin 3 → Fin S4x2048x16x1.rank)
  bcast_S4x2048x16_S4x2048x1x16_0_1_3 : S4x2048x16.BroadcastsInDim S4x2048x1x16 (![0, 1, 3] : Fin 3 → Fin S4x2048x1x16.rank)
  bcast_S4x2048x16x1_S4x2048x16x16_0_1_2_3 : S4x2048x16x1.BroadcastsInDim S4x2048x16x16 (![0, 1, 2, 3] : Fin 4 → Fin S4x2048x16x16.rank)
  bcast_S4x2048x1x16_S4x2048x16x16_0_1_2_3 : S4x2048x1x16.BroadcastsInDim S4x2048x16x16 (![0, 1, 2, 3] : Fin 4 → Fin S4x2048x16x16.rank)
  natLt_1_32 : 1 < 32
  reducesTo_S4x2048x16x16_S4x2048x16_d3 : S4x2048x16x16.ReducesTo [3] S4x2048x16
  dot_S4x2048x3_S4x8192x3_S4x2048x8192_2_2_1_1_0_0_wf : DotDims.WF S4x2048x3 S4x8192x3 S4x2048x8192 [2] [2] [1] [1] [0] [0]

variable [Facts]

def dot_S4x2048x3_S4x8192x3_S4x2048x8192_2_2_1_1_0_0 : DotDims S4x2048x3 S4x8192x3 S4x2048x8192 where
  lhsContracting := [2]
  rhsContracting := [2]
  lhsNonContracting := [1]
  rhsNonContracting := [1]
  lhsBatch := [0]
  rhsBatch := [0]
  wf := dot_S4x2048x3_S4x8192x3_S4x2048x8192_2_2_1_1_0_0_wf
def fn_part1 {F : FTy → Type} [FloatOps F] (main_v2 : IVec S4x8192x3 1) (main_values : FVec F S4x2048x17 .f32) (main_indices : IVec S4x2048x17 32) (main_v17 : FVec F S4x2048x16 .f32) : IVec S4x8192x3 1 × IVec S4x2048x16 1 × IVec S4x2048x16 1 :=
  let main_v18 : FVec F S4x2048x16 .f32 := (extractStridedSlice S4x2048x16 ![0, 0, 1] · slices_S4x2048x17_S4x2048x16_0_0_1) main_values
  let main_v19 : IVec S4x2048x16 1 := cmpf .ogt main_v17 main_v18
  let main_v20 : IVec S4x2048x16 32 := (extractStridedSlice S4x2048x16 ![0, 0, 0] · slices_S4x2048x17_S4x2048x16_0_0_0) main_indices
  let main_c : IVec S_ 32 := constantI S_ 32 127#32
  let main_v21 : IVec S4x2048x16 32 := broadcastInDim S4x2048x16 ![] bcast_S_S4x2048x16 main_c
  let main_v22 : IVec S4x2048x16 32 := andi main_v20 main_v21
  let main_v23 : IVec S4x2048x16x1 32 := broadcastInDim S4x2048x16x1 ![0, 1, 2] bcast_S4x2048x16_S4x2048x16x1_0_1_2 main_v22
  let main_v24 : IVec S4x2048x1x16 32 := broadcastInDim S4x2048x1x16 ![0, 1, 3] bcast_S4x2048x16_S4x2048x1x16_0_1_3 main_v22
  let main_v25 : IVec S4x2048x16x16 32 := broadcastInDim S4x2048x16x16 ![0, 1, 2, 3] bcast_S4x2048x16x1_S4x2048x16x16_0_1_2_3 main_v23
  let main_v26 : IVec S4x2048x16x16 32 := broadcastInDim S4x2048x16x16 ![0, 1, 2, 3] bcast_S4x2048x1x16_S4x2048x16x16_0_1_2_3 main_v24
  let main_v27 : IVec S4x2048x16x16 1 := cmpi .eq main_v25 main_v26
  let main_v28 : IVec S4x2048x16x16 32 := (extui 32 · natLt_1_32) main_v27
  let main_c_3 : IVec S_ 32 := constantI S_ 32 0#32
  let main_v29 : IVec S4x2048x16 32 := (fun x v => Host.reduce IntOp.addi x v reducesTo_S4x2048x16x16_S4x2048x16_d3 h_S_) main_v28 main_c_3
  let main_c_4 : IVec S_ 32 := constantI S_ 32 3#32
  let main_v30 : IVec S4x2048x16 32 := broadcastInDim S4x2048x16 ![] bcast_S_S4x2048x16 main_c_4
  let main_v31 : IVec S4x2048x16 1 := cmpi .sle main_v29 main_v30
  (main_v2, main_v19, main_v31)

def fn {F : FTy → Type} [FloatOps F] (main_arg0 : FVec F S4x2048x3 .f32) (main_arg1 : FVec F S4x8192x3 .f32) (main_arg2 : FVec F S3x128 .f32) (main_arg3 : FVec F S128 .f32) (main_arg4 : FVec F S128x128 .f32) (main_arg5 : FVec F S128 .f32) (main_arg6 : FVec F S131x128 .f32) (main_arg7 : FVec F S128 .f32) (main_arg8 : FVec F S128x3 .f32) (main_arg9 : FVec F S3 .f32) : IVec S4x8192x3 1 × IVec S4x2048x16 1 × IVec S4x2048x16 1 :=
  let main_v0 : FVec F S4x8192x3 .f32 := Host.absf main_arg1
  let main_cst : FVec F S_ .f32 := constant S_ .f32 0x7F800000#32
  let main_v1 : FVec F S4x8192x3 .f32 := broadcastInDim S4x8192x3 ![] bcast_S_S4x8192x3 main_cst
  let main_v2 : IVec S4x8192x3 1 := cmpf .olt main_v0 main_v1
  let main_v3 : FVec F S4x2048x3 .f32 := mulf main_arg0 main_arg0
  let main_cst_0 : FVec F S_ .f32 := constant S_ .f32 0x00000000#32
  let main_v4 : FVec F S4x2048 .f32 := (fun x v => Host.reduceAdd x v reducesTo_S4x2048x3_S4x2048_d2 h_S_) main_v3 main_cst_0
  let main_v5 : FVec F S4x2048x1 .f32 := broadcastInDim S4x2048x1 ![0, 1] bcast_S4x2048_S4x2048x1_0_1 main_v4
  let main_v6 : FVec F S4x8192x3 .f32 := mulf main_arg1 main_arg1
  let main_cst_1 : FVec F S_ .f32 := constant S_ .f32 0x00000000#32
  let main_v7 : FVec F S4x8192 .f32 := (fun x v => Host.reduceAdd x v reducesTo_S4x8192x3_S4x8192_d2 h_S_) main_v6 main_cst_1
  let main_v8 : FVec F S4x1x8192 .f32 := broadcastInDim S4x1x8192 ![0, 2] bcast_S4x8192_S4x1x8192_0_2 main_v7
  let main_v9 : FVec F S4x2048x8192 .f32 := broadcastInDim S4x2048x8192 ![0, 1, 2] bcast_S4x2048x1_S4x2048x8192_0_1_2 main_v5
  let main_v10 : FVec F S4x2048x8192 .f32 := broadcastInDim S4x2048x8192 ![0, 1, 2] bcast_S4x1x8192_S4x2048x8192_0_1_2 main_v8
  let main_v11 : FVec F S4x2048x8192 .f32 := addf main_v9 main_v10
  let main_v12 : FVec F S4x2048x8192 .f32 := (fun l r => Host.dotGeneral dot_S4x2048x3_S4x8192x3_S4x2048x8192_2_2_1_1_0_0 none l r) main_arg0 main_arg1
  let main_cst_2 : FVec F S_ .f32 := constant S_ .f32 0x40000000#32
  let main_v13 : FVec F S4x2048x8192 .f32 := broadcastInDim S4x2048x8192 ![] bcast_S_S4x2048x8192 main_cst_2
  let main_v14 : FVec F S4x2048x8192 .f32 := mulf main_v13 main_v12
  let main_v15 : FVec F S4x2048x8192 .f32 := subf main_v11 main_v14
  let main_v16 : FVec F S4x2048x8192 .f32 := Host.negf main_v15
  let main_values : FVec F S4x2048x17 .f32 := (fun x => (Host.topK S4x2048x17 2 (FloatOps.cmpfTotal .gt) x sliceFits_S4x2048x8192_S4x2048x17).1) main_v16
  let main_indices : IVec S4x2048x17 32 := (fun x => (Host.topK S4x2048x17 2 (FloatOps.cmpfTotal .gt) x sliceFits_S4x2048x8192_S4x2048x17).2) main_v16
  let main_v17 : FVec F S4x2048x16 .f32 := (extractStridedSlice S4x2048x16 ![0, 0, 0] · slices_S4x2048x17_S4x2048x16_0_0_0) main_values
  fn_part1 (F := F) main_v2 main_values main_indices main_v17
-- ==== Kernel.lean ====
abbrev S4x2048x3 : Shape := ⟨3, ![4, 2048, 3]⟩
abbrev S4x8192x3 : Shape := ⟨3, ![4, 8192, 3]⟩
abbrev S3x128 : Shape := ⟨2, ![3, 128]⟩
abbrev S128 : Shape := ⟨1, ![128]⟩
abbrev S128x128 : Shape := ⟨2, ![128, 128]⟩
abbrev S131x128 : Shape := ⟨2, ![131, 128]⟩
abbrev S128x3 : Shape := ⟨2, ![128, 3]⟩
abbrev S3 : Shape := ⟨1, ![3]⟩
abbrev S4x3x8192 : Shape := ⟨3, ![4, 3, 8192]⟩
abbrev S_ : Shape := ⟨0, ![]⟩
abbrev S1x128 : Shape := ⟨2, ![1, 128]⟩
abbrev S1x3 : Shape := ⟨2, ![1, 3]⟩
abbrev S1x1024x3 : Shape := ⟨3, ![1, 1024, 3]⟩
abbrev S1x8192x3 : Shape := ⟨3, ![1, 8192, 3]⟩
abbrev S1x3x8192 : Shape := ⟨3, ![1, 3, 8192]⟩
abbrev S8192x132 : Shape := ⟨2, ![8192, 132]⟩
abbrev S3x8192 : Shape := ⟨2, ![3, 8192]⟩
abbrev S8192x3 : Shape := ⟨2, ![8192, 3]⟩
abbrev S8192x128 : Shape := ⟨2, ![8192, 128]⟩
abbrev S8192x1 : Shape := ⟨2, ![8192, 1]⟩
abbrev S1024x3 : Shape := ⟨2, ![1024, 3]⟩
abbrev S8192 : Shape := ⟨1, ![8192]⟩
abbrev S1x8192 : Shape := ⟨2, ![1, 8192]⟩
abbrev S1024x8192 : Shape := ⟨2, ![1024, 8192]⟩
abbrev S1024x128 : Shape := ⟨2, ![1024, 128]⟩
abbrev S1024x384 : Shape := ⟨2, ![1024, 384]⟩
abbrev S1024x1 : Shape := ⟨2, ![1024, 1]⟩
abbrev S1024 : Shape := ⟨1, ![1024]⟩
abbrev S1024x132 : Shape := ⟨2, ![1024, 132]⟩

abbrev nBuf : Space → Nat
  | .hbm => 19
  | .vmem => 17
  | .smem => 0
  | _ => 0

abbrev bufTy : (tb : Table) → Fin (tcTables nBuf tb) → BufTy
  | .hbm, ⟨0, _⟩ => ⟨S4x2048x3, .f32⟩
  | .hbm, ⟨1, _⟩ => ⟨S4x8192x3, .f32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S131x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S4x3x8192, .f32⟩
  | .hbm, ⟨11, _⟩ => ⟨S_, .f32⟩
  | .hbm, ⟨12, _⟩ => ⟨S4x3x8192, .f32⟩
  | .hbm, ⟨13, _⟩ => ⟨S4x3x8192, .f32⟩
  | .hbm, ⟨14, _⟩ => ⟨S1x128, .f32⟩
  | .hbm, ⟨15, _⟩ => ⟨S1x128, .f32⟩
  | .hbm, ⟨16, _⟩ => ⟨S1x128, .f32⟩
  | .hbm, ⟨17, _⟩ => ⟨S1x3, .f32⟩
  | .hbm, ⟨18, _⟩ => ⟨S4x2048x3, .f32⟩
  | .local _ .vmem, ⟨0, _⟩ => ⟨S1x1024x3, .f32⟩
  | .local _ .vmem, ⟨1, _⟩ => ⟨S1x1024x3, .f32⟩
  | .local _ .vmem, ⟨2, _⟩ => ⟨S1x8192x3, .f32⟩
  | .local _ .vmem, ⟨3, _⟩ => ⟨S1x8192x3, .f32⟩
  | .local _ .vmem, ⟨4, _⟩ => ⟨S1x3x8192, .f32⟩
  | .local _ .vmem, ⟨5, _⟩ => ⟨S1x3x8192, .f32⟩
  | .local _ .vmem, ⟨6, _⟩ => ⟨S3x128, .f32⟩
  | .local _ .vmem, ⟨7, _⟩ => ⟨S1x128, .f32⟩
  | .local _ .vmem, ⟨8, _⟩ => ⟨S128x128, .f32⟩
  | .local _ .vmem, ⟨9, _⟩ => ⟨S1x128, .f32⟩
  | .local _ .vmem, ⟨10, _⟩ => ⟨S131x128, .f32⟩
  | .local _ .vmem, ⟨11, _⟩ => ⟨S1x128, .f32⟩
  | .local _ .vmem, ⟨12, _⟩ => ⟨S128x3, .f32⟩
  | .local _ .vmem, ⟨13, _⟩ => ⟨S1x3, .f32⟩
  | .local _ .vmem, ⟨14, _⟩ => ⟨S1x1024x3, .f32⟩
  | .local _ .vmem, ⟨15, _⟩ => ⟨S1x1024x3, .f32⟩
  | .local _ .vmem, ⟨16, _⟩ => ⟨S8192x132, .f32⟩
  | _, _ => ⟨S4x2048x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 16 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | _ => false

abbrev sig : RefSig :=
  ofTc nBuf bufTy 0 16 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_call0_v0 : Ref sig .tc := ⟨.hbm, 10, rfl⟩
abbrev main_call0_cst : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_v6 : Ref sig .tc := ⟨.hbm, 17, rfl⟩
abbrev main_v0 : Ref sig .tc := ⟨.hbm, 18, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg8_0 : Ref sig .tc := ⟨.vmem, 11, rfl⟩
abbrev cc0_stg9_0 : Ref sig .tc := ⟨.vmem, 12, rfl⟩
abbrev cc0_stg10_0 : Ref sig .tc := ⟨.vmem, 13, rfl⟩
abbrev cc0_stg11_0 : Ref sig .tc := ⟨.vmem, 14, rfl⟩
abbrev cc0_stg11_1 : Ref sig .tc := ⟨.vmem, 15, rfl⟩
abbrev cc0_scratch0 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem8_0 : DmaSem sig := 11
abbrev cc0_sem9_0 : DmaSem sig := 12
abbrev cc0_sem10_0 : DmaSem sig := 13
abbrev cc0_sem11_0 : DmaSem sig := 14
abbrev cc0_sem11_1 : DmaSem sig := 15

abbrev nD : Nat := 1
abbrev τ : Topo := Topo.v7x

variable {F : FTy → Type} [FloatOps F]

abbrev grid0 : Pipeline.Grid := ⟨2, ![4, 2], ![false, false]⟩

def cc0_transform_0 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc0_transform_1 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_2 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_11 (i : grid0.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

abbrev stage0_0 : Fin 2 → Memref sig .tc .vmem S1x1024x3 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S1x8192x3 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 2 → Memref sig .tc .vmem S1x3x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true, false]

abbrev stage0_3 : Fin 1 → Memref sig .tc .vmem S3x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S1x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 1 → Memref sig .tc .vmem S128x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false, false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false, false]

abbrev stage0_7 : Fin 1 → Memref sig .tc .vmem S131x128 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false, false]

abbrev stage0_8 : Fin 1 → Memref sig .tc .vmem S1x128 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false, false]

abbrev stage0_9 : Fin 1 → Memref sig .tc .vmem S128x3 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false, false]

abbrev stage0_10 : Fin 1 → Memref sig .tc .vmem S1x3 .f32 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))
abbrev reads0_10 : Fin grid0.rank → Bool := ![false, false]

abbrev stage0_11 : Fin 2 → Memref sig .tc .vmem S1x1024x3 .f32 := fun | 0 => Memref.whole cc0_stg11_0 | 1 => Memref.whole cc0_stg11_1 | ⟨_ + 2, h⟩ => absurd h (Nat.not_lt.2 (Nat.le_add_left _ _))
abbrev sem0_11 : Fin 2 → DmaSem sig := fun | 0 => cc0_sem11_0 | 1 => cc0_sem11_1 | ⟨_ + 2, h⟩ => absurd h (Nat.not_lt.2 (Nat.le_add_left _ _))
abbrev reads0_11 : Fin grid0.rank → Bool := ![true, true]
-- ==== ReferenceIdeal.lean ====
abbrev S4x2048x3 : Shape := ⟨3, ![4, 2048, 3]⟩
abbrev S4x8192x3 : Shape := ⟨3, ![4, 8192, 3]⟩
abbrev S3x128 : Shape := ⟨2, ![3, 128]⟩
abbrev S128 : Shape := ⟨1, ![128]⟩
abbrev S128x128 : Shape := ⟨2, ![128, 128]⟩
abbrev S131x128 : Shape := ⟨2, ![131, 128]⟩
abbrev S128x3 : Shape := ⟨2, ![128, 3]⟩
abbrev S3 : Shape := ⟨1, ![3]⟩
abbrev S4x8192x128 : Shape := ⟨3, ![4, 8192, 128]⟩
abbrev S1x1x128 : Shape := ⟨3, ![1, 1, 128]⟩
abbrev S_ : Shape := ⟨0, ![]⟩
abbrev S4x2048 : Shape := ⟨2, ![4, 2048]⟩
abbrev S4x2048x1 : Shape := ⟨3, ![4, 2048, 1]⟩
abbrev S4x8192 : Shape := ⟨2, ![4, 8192]⟩
abbrev S4x1x8192 : Shape := ⟨3, ![4, 1, 8192]⟩
abbrev S4x2048x8192 : Shape := ⟨3, ![4, 2048, 8192]⟩
abbrev S4x2048x16 : Shape := ⟨3, ![4, 2048, 16]⟩
abbrev S4x2048x16x1 : Shape := ⟨4, ![4, 2048, 16, 1]⟩
abbrev S4x2048x16x128 : Shape := ⟨4, ![4, 2048, 16, 128]⟩
abbrev S4x2048x16x3 : Shape := ⟨4, ![4, 2048, 16, 3]⟩
abbrev S4x2048x1x3 : Shape := ⟨4, ![4, 2048, 1, 3]⟩
abbrev S4x2048x16x131 : Shape := ⟨4, ![4, 2048, 16, 131]⟩
abbrev S4x2048x131 : Shape := ⟨3, ![4, 2048, 131]⟩
abbrev S4x2048x128 : Shape := ⟨3, ![4, 2048, 128]⟩
abbrev S1x1x3 : Shape := ⟨3, ![1, 1, 3]⟩

abbrev nBuf : Space → Nat
  | .hbm => 95
  | .vmem => 0
  | .smem => 0
  | _ => 0

abbrev bufTy : (tb : Table) → Fin (tcTables nBuf tb) → BufTy
  | .hbm, ⟨0, _⟩ => ⟨S4x2048x3, .f32⟩
  | .hbm, ⟨1, _⟩ => ⟨S4x8192x3, .f32⟩
  | .hbm, ⟨2, _⟩ => ⟨S3x128, .f32⟩
  | .hbm, ⟨3, _⟩ => ⟨S128, .f32⟩
  | .hbm, ⟨4, _⟩ => ⟨S128x128, .f32⟩
  | .hbm, ⟨5, _⟩ => ⟨S128, .f32⟩
  | .hbm, ⟨6, _⟩ => ⟨S131x128, .f32⟩
  | .hbm, ⟨7, _⟩ => ⟨S128, .f32⟩
  | .hbm, ⟨8, _⟩ => ⟨S128x3, .f32⟩
  | .hbm, ⟨9, _⟩ => ⟨S3, .f32⟩
  | .hbm, ⟨10, _⟩ => ⟨S4x8192x128, .f32⟩
  | .hbm, ⟨11, _⟩ => ⟨S1x1x128, .f32⟩
  | .hbm, ⟨12, _⟩ => ⟨S4x8192x128, .f32⟩
  | .hbm, ⟨13, _⟩ => ⟨S4x8192x128, .f32⟩
  | .hbm, ⟨14, _⟩ => ⟨S_, .f32⟩
  | .hbm, ⟨15, _⟩ => ⟨S4x8192x128, .f32⟩
  | .hbm, ⟨16, _⟩ => ⟨S4x8192x128, .f32⟩
  | .hbm, ⟨17, _⟩ => ⟨S4x8192x128, .f32⟩
  | .hbm, ⟨18, _⟩ => ⟨S1x1x128, .f32⟩
  | .hbm, ⟨19, _⟩ => ⟨S4x8192x128, .f32⟩
  | .hbm, ⟨20, _⟩ => ⟨S4x8192x128, .f32⟩
  | .hbm, ⟨21, _⟩ => ⟨S4x2048x3, .f32⟩
  | .hbm, ⟨22, _⟩ => ⟨S_, .f32⟩
  | .hbm, ⟨23, _⟩ => ⟨S4x2048, .f32⟩
  | .hbm, ⟨24, _⟩ => ⟨S4x2048x1, .f32⟩
  | .hbm, ⟨25, _⟩ => ⟨S4x8192x3, .f32⟩
  | .hbm, ⟨26, _⟩ => ⟨S_, .f32⟩
  | .hbm, ⟨27, _⟩ => ⟨S4x8192, .f32⟩
  | .hbm, ⟨28, _⟩ => ⟨S4x1x8192, .f32⟩
  | .hbm, ⟨29, _⟩ => ⟨S4x2048x8192, .f32⟩
  | .hbm, ⟨30, _⟩ => ⟨S4x2048x8192, .f32⟩
  | .hbm, ⟨31, _⟩ => ⟨S4x2048x8192, .f32⟩
  | .hbm, ⟨32, _⟩ => ⟨S4x2048x8192, .f32⟩
  | .hbm, ⟨33, _⟩ => ⟨S_, .f32⟩
  | .hbm, ⟨34, _⟩ => ⟨S4x2048x8192, .f32⟩
  | .hbm, ⟨35, _⟩ => ⟨S4x2048x8192, .f32⟩
  | .hbm, ⟨36, _⟩ => ⟨S4x2048x8192, .f32⟩
  | .hbm, ⟨37, _⟩ => ⟨S4x2048x8192, .f32⟩
  | .hbm, ⟨38, _⟩ => ⟨S4x2048x16, .f32⟩
  | .hbm, ⟨39, _⟩ => ⟨S4x2048x16, .i32⟩
  | .hbm, ⟨40, _⟩ => ⟨S_, .i32⟩
  | .hbm, ⟨41, _⟩ => ⟨S4x2048x16, .i32⟩
  | .hbm, ⟨42, _⟩ => ⟨S4x2048x16, .i1⟩
  | .hbm, ⟨43, _⟩ => ⟨S_, .i32⟩
  | .hbm, ⟨44, _⟩ => ⟨S4x2048x16, .i32⟩
  | .hbm, ⟨45, _⟩ => ⟨S4x2048x16, .i32⟩
  | .hbm, ⟨46, _⟩ => ⟨S4x2048x16, .i32⟩
  | .hbm, ⟨47, _⟩ => ⟨S4x2048x16x1, .i32⟩
  | .hbm, ⟨48, _⟩ => ⟨S4x2048x16x128, .f32⟩
  | .hbm, ⟨49, _⟩ => ⟨S_, .i32⟩
  | .hbm, ⟨50, _⟩ => ⟨S4x2048x16, .i32⟩
  | .hbm, ⟨51, _⟩ => ⟨S4x2048x16, .i1⟩
  | .hbm, ⟨52, _⟩ => ⟨S_, .i32⟩
  | .hbm, ⟨53, _⟩ => ⟨S4x2048x16, .i32⟩
  | .hbm, ⟨54, _⟩ => ⟨S4x2048x16, .i32⟩
  | .hbm, ⟨55, _⟩ => ⟨S4x2048x16, .i32⟩
  | .hbm, ⟨56, _⟩ => ⟨S4x2048x16x1, .i32⟩
  | .hbm, ⟨57, _⟩ => ⟨S4x2048x16x3, .f32⟩
  | .hbm, ⟨58, _⟩ => ⟨S4x2048x1x3, .f32⟩
  | .hbm, ⟨59, _⟩ => ⟨S4x2048x16x3, .f32⟩
  | .hbm, ⟨60, _⟩ => ⟨S4x2048x16x3, .f32⟩
  | .hbm, ⟨61, _⟩ => ⟨S_, .f32⟩
  | .hbm, ⟨62, _⟩ => ⟨S4x2048x16, .f32⟩
  | .hbm, ⟨63, _⟩ => ⟨S4x2048x16, .f32⟩
  | .hbm, ⟨64, _⟩ => ⟨S_, .f32⟩
  | .hbm, ⟨65, _⟩ => ⟨S4x2048, .f32⟩
  | .hbm, ⟨66, _⟩ => ⟨S_, .f32⟩
  | .hbm, ⟨67, _⟩ => ⟨S4x2048, .f32⟩
  | .hbm, ⟨68, _⟩ => ⟨S4x2048, .f32⟩
  | .hbm, ⟨69, _⟩ => ⟨S4x2048x1, .f32⟩
  | .hbm, ⟨70, _⟩ => ⟨S4x2048x16, .f32⟩
  | .hbm, ⟨71, _⟩ => ⟨S4x2048x16, .f32⟩
  | .hbm, ⟨72, _⟩ => ⟨S4x2048x16, .f32⟩
  | .hbm, ⟨73, _⟩ => ⟨S_, .f32⟩
  | .hbm, ⟨74, _⟩ => ⟨S4x2048, .f32⟩
  | .hbm, ⟨75, _⟩ => ⟨S4x2048x1, .f32⟩
  | .hbm, ⟨76, _⟩ => ⟨S4x2048x16, .f32⟩
  | .hbm, ⟨77, _⟩ => ⟨S4x2048x16, .f32⟩
  | .hbm, ⟨78, _⟩ => ⟨S4x2048x16x131, .f32⟩
  | .hbm, ⟨79, _⟩ => ⟨S4x2048x16x1, .f32⟩
  | .hbm, ⟨80, _⟩ => ⟨S4x2048x16x131, .f32⟩
  | .hbm, ⟨81, _⟩ => ⟨S4x2048x16x131, .f32⟩
  | .hbm, ⟨82, _⟩ => ⟨S_, .f32⟩
  | .hbm, ⟨83, _⟩ => ⟨S4x2048x131, .f32⟩
  | .hbm, ⟨84, _⟩ => ⟨S4x2048x128, .f32⟩
  | .hbm, ⟨85, _⟩ => ⟨S1x1x128, .f32⟩
  | .hbm, ⟨86, _⟩ => ⟨S4x2048x128, .f32⟩
  | .hbm, ⟨87, _⟩ => ⟨S4x2048x128, .f32⟩
  | .hbm, ⟨88, _⟩ => ⟨S_, .f32⟩
  | .hbm, ⟨89, _⟩ => ⟨S4x2048x128, .f32⟩
  | .hbm, ⟨90, _⟩ => ⟨S4x2048x128, .f32⟩
  | .hbm, ⟨91, _⟩ => ⟨S4x2048x3, .f32⟩
  | .hbm, ⟨92, _⟩ => ⟨S1x1x3, .f32⟩
  | .hbm, ⟨93, _⟩ => ⟨S4x2048x3, .f32⟩
  | .hbm, ⟨94, _⟩ => ⟨S4x2048x3, .f32⟩
  | _, _ => ⟨S4x2048x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_v0 : Ref sig .tc := ⟨.hbm, 10, rfl⟩
abbrev main_v1 : Ref sig .tc := ⟨.hbm, 11, rfl⟩
abbrev main_v2 : Ref sig .tc := ⟨.hbm, 12, rfl⟩
abbrev main_v3 : Ref sig .tc := ⟨.hbm, 13, rfl⟩
abbrev main_cst : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_v7 : Ref sig .tc := ⟨.hbm, 18, rfl⟩
abbrev main_v8 : Ref sig .tc := ⟨.hbm, 19, rfl⟩
abbrev main_v9 : Ref sig .tc := ⟨.hbm, 20, rfl⟩
abbrev main_v10 : Ref sig .tc := ⟨.hbm, 21, rfl⟩
abbrev main_cst_0 : Ref sig .tc := ⟨.hbm, 22, rfl⟩
abbrev main_v11 : Ref sig .tc := ⟨.hbm, 23, rfl⟩
abbrev main_v12 : Ref sig .tc := ⟨.hbm, 24, rfl⟩
abbrev main_v13 : Ref sig .tc := ⟨.hbm, 25, rfl⟩
abbrev main_cst_1 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_v19 : Ref sig .tc := ⟨.hbm, 32, rfl⟩
abbrev main_cst_2 : Ref sig .tc := ⟨.hbm, 33, rfl⟩
abbrev main_v20 : Ref sig .tc := ⟨.hbm, 34, rfl⟩
abbrev main_v21 : Ref sig .tc := ⟨.hbm, 35, rfl⟩
abbrev main_v22 : Ref sig .tc := ⟨.hbm, 36, rfl⟩
abbrev main_v23 : Ref sig .tc := ⟨.hbm, 37, rfl⟩
abbrev main_values : Ref sig .tc := ⟨.hbm, 38, rfl⟩
abbrev main_indices : Ref sig .tc := ⟨.hbm, 39, rfl⟩
abbrev main_c : Ref sig .tc := ⟨.hbm, 40, rfl⟩
abbrev main_v24 : Ref sig .tc := ⟨.hbm, 41, rfl⟩
abbrev main_v25 : Ref sig .tc := ⟨.hbm, 42, rfl⟩
abbrev main_c_3 : Ref sig .tc := ⟨.hbm, 43, rfl⟩
abbrev main_v26 : Ref sig .tc := ⟨.hbm, 44, rfl⟩
abbrev main_v27 : Ref sig .tc := ⟨.hbm, 45, rfl⟩
abbrev main_v28 : Ref sig .tc := ⟨.hbm, 46, rfl⟩
abbrev main_v29 : Ref sig .tc := ⟨.hbm, 47, rfl⟩
abbrev main_v30 : Ref sig .tc := ⟨.hbm, 48, rfl⟩
abbrev main_c_4 : Ref sig .tc := ⟨.hbm, 49, rfl⟩
abbrev main_v31 : Ref sig .tc := ⟨.hbm, 50, rfl⟩
abbrev main_v32 : Ref sig .tc := ⟨.hbm, 51, rfl⟩
abbrev main_c_5 : Ref sig .tc := ⟨.hbm, 52, rfl⟩
abbrev main_v33 : Ref sig .tc := ⟨.hbm, 53, rfl⟩
abbrev main_v34 : Ref sig .tc := ⟨.hbm, 54, rfl⟩
abbrev main_v35 : Ref sig .tc := ⟨.hbm, 55, rfl⟩
abbrev main_v36 : Ref sig .tc := ⟨.hbm, 56, rfl⟩
abbrev main_v37 : Ref sig .tc := ⟨.hbm, 57, rfl⟩
abbrev main_v38 : Ref sig .tc := ⟨.hbm, 58, rfl⟩
abbrev main_v39 : Ref sig .tc := ⟨.hbm, 59, rfl⟩
abbrev main_v40 : Ref sig .tc := ⟨.hbm, 60, rfl⟩
abbrev main_cst_6 : Ref sig .tc := ⟨.hbm, 61, rfl⟩
abbrev main_v41 : Ref sig .tc := ⟨.hbm, 62, rfl⟩
abbrev main_v42 : Ref sig .tc := ⟨.hbm, 63, rfl⟩
abbrev main_cst_7 : Ref sig .tc := ⟨.hbm, 64, rfl⟩
abbrev main_v43 : Ref sig .tc := ⟨.hbm, 65, rfl⟩
abbrev main_cst_8 : Ref sig .tc := ⟨.hbm, 66, rfl⟩
abbrev main_v44 : Ref sig .tc := ⟨.hbm, 67, rfl⟩
abbrev main_v45 : Ref sig .tc := ⟨.hbm, 68, rfl⟩
abbrev main_v46 : Ref sig .tc := ⟨.hbm, 69, rfl⟩
abbrev main_v47 : Ref sig .tc := ⟨.hbm, 70, rfl⟩
abbrev main_v48 : Ref sig .tc := ⟨.hbm, 71, rfl⟩
abbrev main_v49 : Ref sig .tc := ⟨.hbm, 72, rfl⟩
abbrev main_cst_9 : Ref sig .tc := ⟨.hbm, 73, rfl⟩
abbrev main_v50 : Ref sig .tc := ⟨.hbm, 74, rfl⟩
abbrev main_v51 : Ref sig .tc := ⟨.hbm, 75, rfl⟩
abbrev main_v52 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_cst_10 : Ref sig .tc := ⟨.hbm, 82, rfl⟩
abbrev main_v58 : Ref sig .tc := ⟨.hbm, 83, rfl⟩
abbrev main_v59 : Ref sig .tc := ⟨.hbm, 84, rfl⟩
abbrev main_v60 : Ref sig .tc := ⟨.hbm, 85, rfl⟩
abbrev main_v61 : Ref sig .tc := ⟨.hbm, 86, rfl⟩
abbrev main_v62 : Ref sig .tc := ⟨.hbm, 87, rfl⟩
abbrev main_cst_11 : Ref sig .tc := ⟨.hbm, 88, rfl⟩
abbrev main_v63 : Ref sig .tc := ⟨.hbm, 89, rfl⟩
abbrev main_v64 : Ref sig .tc := ⟨.hbm, 90, rfl⟩
abbrev main_v65 : Ref sig .tc := ⟨.hbm, 91, rfl⟩
abbrev main_v66 : Ref sig .tc := ⟨.hbm, 92, rfl⟩
abbrev main_v67 : Ref sig .tc := ⟨.hbm, 93, rfl⟩
abbrev main_v68 : Ref sig .tc := ⟨.hbm, 94, rfl⟩

abbrev nD : Nat := 1
abbrev τ : Topo := Topo.v7x

variable {F : FTy → Type} [FloatOps F]
-- ==== Proof.KernelBlock.lean ====
/- What the kernel's body leaves at one grid point, as named pieces of the generated payloads: the three running minima
   after each stretch of the network, the 384 candidates, the output block, and the carried feature table. -/
module

public import proofs.«01_k».proof.Proof.Gen.KernelIdeal.Value
import all proofs.«01_k».proof.Proof.Gen.KernelIdeal.Frame
public import Idealize.ShloMosaic.Lib.Pipeline.ValueKit
public import Idealize.ShloMosaic.Lib.Pipeline.ReadBack

@[expose] public section

set_option maxRecDepth 16384

noncomputable section

namespace Cert.KernelIdeal.Block

open Idealize.ShloMosaic Cert.KernelIdeal Cert.KernelIdeal.Gen

local notation "𝕀" => Idealize.ShloMosaic.Ideal

/-- Three vectors of lane minima: least, second, third. -/
structure Tri where
  a : FVec 𝕀 S1024x128 .f32
  b : FVec 𝕀 S1024x128 .f32
  c : FVec 𝕀 S1024x128 .f32

variable (P : Vec 𝕀 S1x3x8192 .f32) (q : Vec 𝕀 S1x1024x3 .f32)

/-- The three lane minima after slices 0 to 5. -/
def tri5 : Tri :=
  { a := k0_pay86 (k0_pay8 P q) (k0_pay9 P q) (k0_pay10 P q) (k0_pay11 P q) (k0_pay12 P q) (k0_pay13 P q),
    b := k0_pay87 (k0_pay8 P q) (k0_pay9 P q) (k0_pay10 P q) (k0_pay11 P q) (k0_pay12 P q) (k0_pay13 P q),
    c := k0_pay88 (k0_pay8 P q) (k0_pay9 P q) (k0_pay10 P q) (k0_pay11 P q) (k0_pay12 P q) (k0_pay13 P q) }

/-- The three lane minima after slices 0 to 17. -/
def tri17 : Tri :=
  { a := k0_pay123 (k0_pay14 P q) (k0_pay15 P q) (k0_pay16 P q) (k0_pay17 P q) (k0_pay18 P q) (k0_pay19 P q) (k0_pay20 P q) (k0_pay21 P q) (k0_pay22 P q) (k0_pay23 P q) (k0_pay24 P q) (k0_pay25 P q) (tri5 P q).a,
    b := k0_pay124 (k0_pay14 P q) (k0_pay15 P q) (k0_pay16 P q) (k0_pay17 P q) (k0_pay18 P q) (k0_pay19 P q) (k0_pay20 P q) (k0_pay21 P q) (k0_pay22 P q) (k0_pay23 P q) (k0_pay24 P q) (k0_pay25 P q) (tri5 P q).a (tri5 P q).b,
    c := k0_pay125 (k0_pay14 P q) (k0_pay15 P q) (k0_pay16 P q) (k0_pay17 P q) (k0_pay18 P q) (k0_pay19 P q) (k0_pay20 P q) (k0_pay21 P q) (k0_pay22 P q) (k0_pay23 P q) (k0_pay24 P q) (k0_pay25 P q) (tri5 P q).a (tri5 P q).b (tri5 P q).c }

/-- The three lane minima after slices 0 to 29. -/
def tri29 : Tri :=
  { a := k0_pay160 (k0_pay26 P q) (k0_pay27 P q) (k0_pay28 P q) (k0_pay29 P q) (k0_pay30 P q) (k0_pay31 P q) (k0_pay32 P q) (k0_pay33 P q) (k0_pay34 P q) (k0_pay35 P q) (k0_pay36 P q) (k0_pay37 P q) (tri17 P q).a,
    b := k0_pay161 (k0_pay26 P q) (k0_pay27 P q) (k0_pay28 P q) (k0_pay29 P q) (k0_pay30 P q) (k0_pay31 P q) (k0_pay32 P q) (k0_pay33 P q) (k0_pay34 P q) (k0_pay35 P q) (k0_pay36 P q) (k0_pay37 P q) (tri17 P q).a (tri17 P q).b,
    c := k0_pay162 (k0_pay26 P q) (k0_pay27 P q) (k0_pay28 P q) (k0_pay29 P q) (k0_pay30 P q) (k0_pay31 P q) (k0_pay32 P q) (k0_pay33 P q) (k0_pay34 P q) (k0_pay35 P q) (k0_pay36 P q) (k0_pay37 P q) (tri17 P q).a (tri17 P q).b (tri17 P q).c }

/-- The three lane minima after slices 0 to 41. -/
def tri41 : Tri :=
  { a := k0_pay197 (k0_pay38 P q) (k0_pay39 (k0_pay7 P q)) (k0_pay40 (k0_pay7 P q)) (k0_pay41 (k0_pay7 P q)) (k0_pay42 (k0_pay7 P q)) (k0_pay43 (k0_pay7 P q)) (k0_pay44 (k0_pay7 P q)) (k0_pay45 (k0_pay7 P q)) (k0_pay46 (k0_pay7 P q)) (k0_pay47 (k0_pay7 P q)) (k0_pay48 (k0_pay7 P q)) (k0_pay49 (k0_pay7 P q)) (tri29 P q).a,
    b := k0_pay198 (k0_pay38 P q) (k0_pay39 (k0_pay7 P q)) (k0_pay40 (k0_pay7 P q)) (k0_pay41 (k0_pay7 P q)) (k0_pay42 (k0_pay7 P q)) (k0_pay43 (k0_pay7 P q)) (k0_pay44 (k0_pay7 P q)) (k0_pay45 (k0_pay7 P q)) (k0_pay46 (k0_pay7 P q)) (k0_pay47 (k0_pay7 P q)) (k0_pay48 (k0_pay7 P q)) (k0_pay49 (k0_pay7 P q)) (tri29 P q).a (tri29 P q).b,
    c := k0_pay199 (k0_pay38 P q) (k0_pay39 (k0_pay7 P q)) (k0_pay40 (k0_pay7 P q)) (k0_pay41 (k0_pay7 P q)) (k0_pay42 (k0_pay7 P q)) (k0_pay43 (k0_pay7 P q)) (k0_pay44 (k0_pay7 P q)) (k0_pay45 (k0_pay7 P q)) (k0_pay46 (k0_pay7 P q)) (k0_pay47 (k0_pay7 P q)) (k0_pay48 (k0_pay7 P q)) (k0_pay49 (k0_pay7 P q)) (tri29 P q).a (tri29 P q).b (tri29 P q).c }

/-- The three lane minima after slices 0 to 53. -/
def tri53 : Tri :=
  { a := k0_pay234 (k0_pay50 (k0_pay7 P q)) (k0_pay51 (k0_pay7 P q)) (k0_pay52 (k0_pay7 P q)) (k0_pay53 (k0_pay7 P q)) (k0_pay54 (k0_pay7 P q)) (k0_pay55 (k0_pay7 P q)) (k0_pay56 (k0_pay7 P q)) (k0_pay57 (k0_pay7 P q)) (k0_pay58 (k0_pay7 P q)) (k0_pay59 (k0_pay7 P q)) (k0_pay60 (k0_pay7 P q)) (k0_pay61 (k0_pay7 P q)) (tri41 P q).a,
    b := k0_pay235 (k0_pay50 (k0_pay7 P q)) (k0_pay51 (k0_pay7 P q)) (k0_pay52 (k0_pay7 P q)) (k0_pay53 (k0_pay7 P q)) (k0_pay54 (k0_pay7 P q)) (k0_pay55 (k0_pay7 P q)) (k0_pay56 (k0_pay7 P q)) (k0_pay57 (k0_pay7 P q)) (k0_pay58 (k0_pay7 P q)) (k0_pay59 (k0_pay7 P q)) (k0_pay60 (k0_pay7 P q)) (k0_pay61 (k0_pay7 P q)) (tri41 P q).a (tri41 P q).b,
    c := k0_pay236 (k0_pay50 (k0_pay7 P q)) (k0_pay51 (k0_pay7 P q)) (k0_pay52 (k0_pay7 P q)) (k0_pay53 (k0_pay7 P q)) (k0_pay54 (k0_pay7 P q)) (k0_pay55 (k0_pay7 P q)) (k0_pay56 (k0_pay7 P q)) (k0_pay57 (k0_pay7 P q)) (k0_pay58 (k0_pay7 P q)) (k0_pay59 (k0_pay7 P q)) (k0_pay60 (k0_pay7 P q)) (k0_pay61 (k0_pay7 P q)) (tri41 P q).a (tri41 P q).b (tri41 P q).c }

/-- The 384 candidates of each query. -/
def cand : FVec 𝕀 S1024x384 .f32 := k0_pay237 (k0_pay62 (k0_pay7 P q)) (k0_pay63 (k0_pay7 P q)) (k0_pay64 (k0_pay7 P q)) (k0_pay65 (k0_pay7 P q)) (k0_pay66 (k0_pay7 P q)) (k0_pay67 (k0_pay7 P q)) (k0_pay68 (k0_pay7 P q)) (k0_pay69 (k0_pay7 P q)) (k0_pay70 (k0_pay7 P q)) (k0_pay71 (k0_pay7 P q)) (tri53 P q).a (tri53 P q).b (tri53 P q).c

/-- The candidates of the first round. -/
def cand1 : FVec 𝕀 S1024x384 .f32 := k0_pay238 (k0_pay62 (k0_pay7 P q)) (k0_pay63 (k0_pay7 P q)) (k0_pay64 (k0_pay7 P q)) (k0_pay65 (k0_pay7 P q)) (k0_pay66 (k0_pay7 P q)) (k0_pay67 (k0_pay7 P q)) (k0_pay68 (k0_pay7 P q)) (k0_pay69 (k0_pay7 P q)) (k0_pay70 (k0_pay7 P q)) (k0_pay71 (k0_pay7 P q)) (tri53 P q).a (tri53 P q).b (tri53 P q).c

/-- One output block, from the transposed context, the queries, the feature table and the weights. -/
def block (H : Vec 𝕀 S8192x132 .f32) (wv1 : Vec 𝕀 S131x128 .f32) (bv1 : Vec 𝕀 S1x128 .f32) (wv2 : Vec 𝕀 S128x3 .f32)
    (bv2 : Vec 𝕀 S1x3 .f32) : FVec 𝕀 S1x1024x3 .f32 :=
  k0_pay1 (k0_pay242 (k0_pay6 q) (k0_pay7 P q) (k0_pay239 (cand1 P q))
    (k0_pay241 (cand P q) (k0_pay240 (cand P q) (cand1 P q))) H
    (View.ld wv1 (Rect.unit ![0, 0] ![128, 128] inb_S131x128_S128x128_0_0))
    (View.ld wv1 (Rect.unit ![128, 0] ![3, 128] inb_S131x128_S3x128_128_0)) bv1 wv2 bv2)

variable (m : (ℓ : Loc nD τ sig) → Buf (Elt 𝕀) ℓ) (c : Dev nD) (t : Fin cfg0.N)

/-- At a point that carries the table over, the output block uses the table of the point before. -/
theorem out_B (h : ¬ t.val % 2 = 0) : (outsAt0 (F := 𝕀) m c t.val t.isLt).1
    = block (iblk m c 2 t) (iblk m c 0 t) (outsAt0 m c t.val t.isLt).2 (iblk m c 7 t) (iblk m c 8 t) (iblk m c 9 t)
        (iblk m c 10 t) := by
  rw [outsAt0_B m c t h]
  frame_out
  simp only [read_unread_whole]
  unfold sout0_B_0
  rfl

/-- At a point that carries the table over, the table is that of the point before. -/
theorem scr_B (h : ¬ t.val % 2 = 0) : (outsAt0 (F := 𝕀) m c t.val t.isLt).2
    = (outsAt0 (F := 𝕀) m c (t.val - 1) (Nat.lt_of_le_of_lt (Nat.sub_le _ _) t.isLt)).2 := by
  rw [outsAt0_B m c t h]
  rfl

/-- The feature table one batch entry fills: 128 features, 3 coordinates and a one per context point. -/
def table (C : Vec 𝕀 S1x8192x3 .f32) (w1 : Vec 𝕀 S3x128 .f32) (b1 : Vec 𝕀 S1x128 .f32) (w2 : Vec 𝕀 S128x128 .f32)
    (b2 : Vec 𝕀 S1x128 .f32) : Vec 𝕀 S8192x132 .f32 :=
  View.canon (Val := Elt 𝕀) (s := S8192x132) (e := .f32)
    [⟨Rect.unit ![0, 131] ![8192, 1] inb_S8192x132_S8192x1_0_131, k0_pay5 (F := 𝕀)⟩,
      ⟨Rect.unit ![0, 128] ![8192, 3] inb_S8192x132_S8192x3_0_128, k0_pay4 C⟩,
      ⟨Rect.unit ![0, 0] ![8192, 128] inb_S8192x132_S8192x128_0_0, k0_pay3 C w1 b1 w2 b2⟩]

/-- At a point that fills the table, the table is that of the point's context block. -/
theorem scr_A (h : t.val % 2 = 0) : (outsAt0 (F := 𝕀) m c t.val t.isLt).2
    = table (iblk m c 1 t) (iblk m c 3 t) (iblk m c 4 t) (iblk m c 5 t) (iblk m c 6 t) := by
  rw [outsAt0_A m c t h]
  frame_out

/-- At a point that fills the table, the output block uses the table just filled. -/
theorem out_A (h : t.val % 2 = 0) : (outsAt0 (F := 𝕀) m c t.val t.isLt).1
    = block (iblk m c 2 t) (iblk m c 0 t) (outsAt0 m c t.val t.isLt).2 (iblk m c 7 t) (iblk m c 8 t) (iblk m c 9 t)
        (iblk m c 10 t) := by
  rw [outsAt0_A m c t h]
  frame_out
  unfold block
  congr 2
  rw [View.readCov_eq_canon']
  exact View.ld_unit_lit _ _ (by decide)

/-- The table at any point is that of the batch entry's first point. -/
theorem scr_eq (t' : Fin cfg0.N) (ht : t'.val = 2 * (t.val / 2)) : (outsAt0 (F := 𝕀) m c t.val t.isLt).2
    = table (iblk m c 1 t') (iblk m c 3 t') (iblk m c 4 t') (iblk m c 5 t') (iblk m c 6 t') := by
  rw [← scr_A m c t' (by omega)]
  by_cases h : t.val % 2 = 0
  · have e : t = t' := Fin.ext (by omega)
    rw [e]
  · rw [scr_B m c t h]
    have e : t.val - 1 = t'.val := by omega
    simp only [e]

/-- The output block at any point. -/
theorem out_eq : (outsAt0 (F := 𝕀) m c t.val t.isLt).1
    = block (iblk m c 2 t) (iblk m c 0 t) (outsAt0 m c t.val t.isLt).2 (iblk m c 7 t) (iblk m c 8 t) (iblk m c 9 t)
        (iblk m c 10 t) := by
  by_cases h : t.val % 2 = 0
  · exact out_A m c t h
  · exact out_B m c t h

end Cert.KernelIdeal.Block
-- ==== Proof.TopThree.lean ====
/- The selection network of one lane: feeding values one after another into a triple that keeps the least three. -/
module

public import Mathlib.Data.EReal.Operations
public import Mathlib.Data.List.Count

@[expose] public section

namespace Cert.TopThree

/-- One step of the network: the triple takes in one more value. -/
noncomputable def step (m : EReal × EReal × EReal) (s : EReal) : EReal × EReal × EReal :=
  (min m.1 s, min m.2.1 (max m.1 s), min m.2.2 (max m.2.1 (max m.1 s)))

/-- The triple after the first value `s` and then the values of `L`. -/
noncomputable def net (s : EReal) (L : List EReal) : EReal × EReal × EReal := L.foldl step (s, ⊤, ⊤)

/-- `m` is the triple of the three least of the values `L`, told by counts below each bound. -/
def Holds (m : EReal × EReal × EReal) (L : List EReal) : Prop :=
  ∀ x : EReal, x < ⊤ → ((m.1 ≤ x ↔ 1 ≤ L.countP (· ≤ x)) ∧ (m.2.1 ≤ x ↔ 2 ≤ L.countP (· ≤ x))
    ∧ (m.2.2 ≤ x ↔ 3 ≤ L.countP (· ≤ x)))

theorem holds_step {m : EReal × EReal × EReal} {L : List EReal} (s : EReal) (h : Holds m L) :
    Holds (step m s) (L ++ [s]) := by
  intro x hx
  obtain ⟨h1, h2, h3⟩ := h x hx
  simp only [step, List.countP_append, List.countP_cons, List.countP_nil, min_le_iff, max_le_iff, h1, h2, h3]
  by_cases hs : s ≤ x
  · simp only [hs, decide_true, if_true, or_true, and_true, true_iff]
    refine ⟨?_, ?_, ?_⟩ <;> omega
  · simp only [hs, decide_false]
    refine ⟨?_, ?_, ?_⟩ <;> simp

theorem holds_first (s : EReal) : Holds (s, ⊤, ⊤) [s] := by
  intro x hx
  by_cases hs : s ≤ x <;> simp [hs, hx.ne]

theorem holds_foldl : ∀ (L' : List EReal) (m : EReal × EReal × EReal) (L : List EReal), Holds m L →
    Holds (L'.foldl step m) (L ++ L')
  | [], m, L, h => by simpa using h
  | s :: L', m, L, h => by
    have := holds_foldl L' _ _ (holds_step s h)
    simpa using this

/-- The network holds the three least. -/
theorem holds_net (s : EReal) (L : List EReal) : Holds (net s L) (s :: L) := by
  show Holds (L.foldl step (s, ⊤, ⊤)) _
  simpa using holds_foldl L _ _ (holds_first s)

/-- Every entry of a triple is a value fed in, or the top. -/
def From (m : EReal × EReal × EReal) (L : List EReal) : Prop :=
  (m.1 = ⊤ ∨ m.1 ∈ L) ∧ (m.2.1 = ⊤ ∨ m.2.1 ∈ L) ∧ (m.2.2 = ⊤ ∨ m.2.2 ∈ L)

theorem from_step {m : EReal × EReal × EReal} {L : List EReal} (s : EReal) (h : From m L) :
    From (step m s) (L ++ [s]) := by
  obtain ⟨h1, h2, h3⟩ := h
  have hmin : ∀ a b : EReal, (a = ⊤ ∨ a ∈ L ++ [s]) → (b = ⊤ ∨ b ∈ L ++ [s]) → (min a b = ⊤ ∨ min a b ∈ L ++ [s]) :=
    fun a b ha hb => by rcases min_choice a b with e | e <;> rw [e] <;> assumption
  have hmax : ∀ a b : EReal, (a = ⊤ ∨ a ∈ L ++ [s]) → (b = ⊤ ∨ b ∈ L ++ [s]) → (max a b = ⊤ ∨ max a b ∈ L ++ [s]) :=
    fun a b ha hb => by rcases max_choice a b with e | e <;> rw [e] <;> assumption
  have w : ∀ a : EReal, (a = ⊤ ∨ a ∈ L) → (a = ⊤ ∨ a ∈ L ++ [s]) := fun a ha => ha.imp id (fun h => by simp [h])
  have hs : s = ⊤ ∨ s ∈ L ++ [s] := by simp
  exact ⟨hmin _ _ (w _ h1) hs, hmin _ _ (w _ h2) (hmax _ _ (w _ h1) hs),
    hmin _ _ (w _ h3) (hmax _ _ (w _ h2) (hmax _ _ (w _ h1) hs))⟩

theorem from_foldl : ∀ (L' : List EReal) (m : EReal × EReal × EReal) (L : List EReal), From m L →
    From (L'.foldl step m) (L ++ L')
  | [], m, L, h => by simpa using h
  | s :: L', m, L, h => by
    have := from_foldl L' _ _ (from_step s h)
    simpa using this

theorem from_net (s : EReal) (L : List EReal) : From (net s L) (s :: L) := by
  have h : From (s, (⊤ : EReal), (⊤ : EReal)) [s] := by simp [From]
  show From (L.foldl step (s, ⊤, ⊤)) _
  simpa using from_foldl L _ _ h

/-- A value of the lane with at most three values up to it is one of the triple's entries. -/
theorem mem_net (s : EReal) (L : List EReal) {x : EReal} (hx : x < ⊤) (hm : x ∈ s :: L)
    (hc : (s :: L).countP (· ≤ x) ≤ 3) : x = (net s L).1 ∨ x = (net s L).2.1 ∨ x = (net s L).2.2 := by
  have H := holds_net s L
  have F := from_net s L
  obtain ⟨h1, h2, h3⟩ := H x hx
  -- an entry `e ≤ x` that is not `x` has fewer values up to it
  have key : ∀ e : EReal, e ≤ x → e ≠ x → (s :: L).countP (· ≤ e) < (s :: L).countP (· ≤ x) := by
    intro e he hne
    have hlt : e < x := lt_of_le_of_ne he hne
    have hsub : ((s :: L).filter (· ≤ e)).Sublist ((s :: L).filter (· ≤ x)) :=
      List.monotone_filter_right _ (fun a ha => by simp at ha ⊢; exact ha.trans he)
    rw [List.countP_eq_length_filter, List.countP_eq_length_filter]
    refine lt_of_le_of_ne hsub.length_le fun hl => ?_
    have := hsub.eq_of_length hl
    have hmem : x ∈ (s :: L).filter (· ≤ x) := List.mem_filter.mpr ⟨hm, by simp⟩
    rw [← this] at hmem
    exact absurd (by simpa using (List.mem_filter.mp hmem).2) (not_le.mpr hlt)
  have hpos : 1 ≤ (s :: L).countP (· ≤ x) := List.countP_pos_iff.mpr ⟨x, hm, by simp⟩
  by_contra hcon
  push Not at hcon
  obtain ⟨n1, n2, n3⟩ := hcon
  have hn : (s :: L).countP (· ≤ x) = 1 ∨ (s :: L).countP (· ≤ x) = 2 ∨ (s :: L).countP (· ≤ x) = 3 := by omega
  rcases hn with e | e | e
  · have hle := h1.mpr (by omega)
    have := key _ hle (Ne.symm n1)
    have := (H _ (hle.trans_lt hx)).1.mp le_rfl
    omega
  · have hle := h2.mpr (by omega)
    have := key _ hle (Ne.symm n2)
    have := (H _ (hle.trans_lt hx)).2.1.mp le_rfl
    omega
  · have hle := h3.mpr (by omega)
    have := key _ hle (Ne.symm n3)
    have := (H _ (hle.trans_lt hx)).2.2.mp le_rfl
    omega

end Cert.TopThree
-- ==== Proof.KernelNet.lean ====
/- The lane network of the kernel: per query and lane, the three least of the lane's 64 distances. -/
module

public import proofs.«01_k».proof.Proof.KernelBlock
public import proofs.«01_k».proof.Proof.TopThree
public import Idealize.ShloMosaic.Lib.Pointwise

@[expose] public section

set_option maxRecDepth 16384

noncomputable section

namespace Cert.KernelIdeal.Block

open Idealize.ShloMosaic Cert.KernelIdeal Cert.KernelIdeal.Gen Cert.TopThree

local notation "𝕀" => Idealize.ShloMosaic.Ideal

variable (P : Vec 𝕀 S1x3x8192 .f32) (q : Vec 𝕀 S1x1024x3 .f32)

/-- The word of the greatest value is the greatest value. -/
theorem inf_eq : Ideal.ofBits .f32 2139095040#32 = (⊤ : EReal) := by
  simp [Ideal.ofBits, Ideal.ieee]

/-- The three minima of a lane. -/
def Tri.at (T : Tri) (i : S1024x128.Idx) : EReal × EReal × EReal := (T.a i, T.b i, T.c i)

/-- The first six slices. -/
theorem tri5_at (i : S1024x128.Idx) : (tri5 P q).at i = net (k0_pay8 P q i) [k0_pay9 P q i, k0_pay10 P q i, k0_pay11 P q i, k0_pay12 P q i, k0_pay13 P q i] := by
  have e : k0_pay72 (F := 𝕀) i = (⊤ : EReal) := inf_eq
  unfold net
  rw [← e]
  rfl

/-- Twelve slices more. -/
theorem tri17_at (i : S1024x128.Idx) : (tri17 P q).at i
    = [k0_pay14 P q i, k0_pay15 P q i, k0_pay16 P q i, k0_pay17 P q i, k0_pay18 P q i,
      k0_pay19 P q i, k0_pay20 P q i, k0_pay21 P q i, k0_pay22 P q i, k0_pay23 P q i,
      k0_pay24 P q i, k0_pay25 P q i].foldl step ((tri5 P q).at i) := rfl

/-- Twelve slices more. -/
theorem tri29_at (i : S1024x128.Idx) : (tri29 P q).at i
    = [k0_pay26 P q i, k0_pay27 P q i, k0_pay28 P q i, k0_pay29 P q i, k0_pay30 P q i,
      k0_pay31 P q i, k0_pay32 P q i, k0_pay33 P q i, k0_pay34 P q i, k0_pay35 P q i,
      k0_pay36 P q i, k0_pay37 P q i].foldl step ((tri17 P q).at i) := rfl

/-- Twelve slices more. -/
theorem tri41_at (i : S1024x128.Idx) : (tri41 P q).at i
    = [k0_pay38 P q i, k0_pay39 (k0_pay7 P q) i, k0_pay40 (k0_pay7 P q) i, k0_pay41 (k0_pay7 P q) i, k0_pay42 (k0_pay7 P q) i,
      k0_pay43 (k0_pay7 P q) i, k0_pay44 (k0_pay7 P q) i, k0_pay45 (k0_pay7 P q) i, k0_pay46 (k0_pay7 P q) i, k0_pay47 (k0_pay7 P q) i,
      k0_pay48 (k0_pay7 P q) i, k0_pay49 (k0_pay7 P q) i].foldl step ((tri29 P q).at i) := rfl

/-- Twelve slices more. -/
theorem tri53_at (i : S1024x128.Idx) : (tri53 P q).at i
    = [k0_pay50 (k0_pay7 P q) i, k0_pay51 (k0_pay7 P q) i, k0_pay52 (k0_pay7 P q) i, k0_pay53 (k0_pay7 P q) i, k0_pay54 (k0_pay7 P q) i,
      k0_pay55 (k0_pay7 P q) i, k0_pay56 (k0_pay7 P q) i, k0_pay57 (k0_pay7 P q) i, k0_pay58 (k0_pay7 P q) i, k0_pay59 (k0_pay7 P q) i,
      k0_pay60 (k0_pay7 P q) i, k0_pay61 (k0_pay7 P q) i].foldl step ((tri41 P q).at i) := rfl

/-- All 64 slices. -/
def tri63 : S1024x128.Idx → EReal × EReal × EReal := fun i =>
  [k0_pay62 (k0_pay7 P q) i, k0_pay63 (k0_pay7 P q) i, k0_pay64 (k0_pay7 P q) i, k0_pay65 (k0_pay7 P q) i, k0_pay66 (k0_pay7 P q) i,
      k0_pay67 (k0_pay7 P q) i, k0_pay68 (k0_pay7 P q) i, k0_pay69 (k0_pay7 P q) i, k0_pay70 (k0_pay7 P q) i, k0_pay71 (k0_pay7 P q) i].foldl step ((tri53 P q).at i)

/-- The value of column `n` of a query's distances, at every number. -/
def dd (r : Fin 1024) (n : ℕ) : EReal := if h : n < 8192 then k0_pay7 (F := 𝕀) P q (ix2 r ⟨n, h⟩) else 0

/-- A slice of 128 columns read at a lane. -/
theorem slice_at (n : ℕ) (h : S1024x8192.Slices ![0, n] S1024x128) (r : Fin 1024) (l : Fin 128) :
    extractStridedSlice S1024x128 ![0, n] (k0_pay7 (F := 𝕀) P q) h (ix2 r l) = dd P q r (n + l.val) := by
  have hn : n + l.val < 8192 := by
    have := h.2 1
    have : n + 128 ≤ 8192 := this
    omega
  unfold dd
  rw [dif_pos hn]
  refine congrArg (k0_pay7 (F := 𝕀) P q) (funext fun a => ?_)
  match a with
  | ⟨0, _⟩ => exact Fin.ext (Nat.zero_add _)
  | ⟨1, _⟩ => rfl

/-- The three minima of a lane are the network's over the lane's 64 distances. -/
theorem tri63_at (r : Fin 1024) (l : Fin 128) : tri63 P q (ix2 r l)
    = net (dd P q r (0 + l.val)) ((List.range 63).map fun a => dd P q r (128 * (a + 1) + l.val)) := by
  unfold tri63
  rw [tri53_at, tri41_at, tri29_at, tri17_at, tri5_at]
  unfold net
  simp only [← List.foldl_append]
  have e : ∀ (s s' : EReal) (L L' : List EReal), s = s' → L = L' → L.foldl step (s, ⊤, ⊤) = L'.foldl step (s', ⊤, ⊤) := by
    rintro s _ L _ rfl rfl; rfl
  refine e _ _ _ _ (slice_at P q 0 slices_S1024x8192_o0_0_S1024x128 r l) ?_
  simp only [List.cons_append, List.nil_append, List.range, List.range.loop, List.map_cons, List.map_nil]
  unfold k0_pay9 k0_pay10 k0_pay11 k0_pay12 k0_pay13 k0_pay14 k0_pay15 k0_pay16 k0_pay17 k0_pay18 k0_pay19 k0_pay20 k0_pay21 k0_pay22 k0_pay23 k0_pay24 k0_pay25 k0_pay26 k0_pay27 k0_pay28 k0_pay29 k0_pay30 k0_pay31 k0_pay32 k0_pay33 k0_pay34 k0_pay35 k0_pay36 k0_pay37 k0_pay38 k0_pay39 k0_pay40 k0_pay41 k0_pay42 k0_pay43 k0_pay44 k0_pay45 k0_pay46 k0_pay47 k0_pay48 k0_pay49 k0_pay50 k0_pay51 k0_pay52 k0_pay53 k0_pay54 k0_pay55 k0_pay56 k0_pay57 k0_pay58 k0_pay59 k0_pay60 k0_pay61 k0_pay62 k0_pay63 k0_pay64 k0_pay65 k0_pay66 k0_pay67 k0_pay68 k0_pay69 k0_pay70 k0_pay71
  simp only [slice_at]

/-- A candidate: the least, the second or the third of its lane. -/
theorem cand_at (r : Fin 1024) (e : Fin 384) : cand P q (ix2 r e)
    = if h : e.val < 128 then (tri63 P q (ix2 r ⟨e.val, h⟩)).1
      else if h' : e.val - 128 < 128 then (tri63 P q (ix2 r ⟨e.val - 128, by omega⟩)).2.1
      else (tri63 P q (ix2 r ⟨e.val - 128 - 128, by omega⟩)).2.2 := by
  unfold cand k0_pay237
  pointwise []
  rfl

end Cert.KernelIdeal.Block
-- ==== Proof.Rounds.lean ====
/- The rounds of the search: each round's threshold is the least candidate above the one before. When the candidates hold
   the 16 nearest distances and nothing else below the 17th, round after round meets them in order. -/
module

public import Mathlib.Data.EReal.Operations
public import Mathlib.Data.Finset.Fold
public import Mathlib.Data.Finset.Lattice.Fold
public import Mathlib.Algebra.BigOperators.Fin
public import Mathlib.Order.Fin.Basic

@[expose] public section

namespace Cert.Rounds

open Finset

/-- One round: the least candidate above `t`. -/
noncomputable def next {C : Type} [Fintype C] (cand : C → EReal) (t : EReal) : EReal :=
  Finset.univ.fold min ⊤ fun x => if t < cand x then cand x else ⊤

/-- The threshold after `n` rounds, from `t`. -/
noncomputable def iter {C : Type} [Fintype C] (cand : C → EReal) (t : EReal) : ℕ → EReal
  | 0 => t
  | n + 1 => next cand (iter cand t n)

/-- A round lands on `v` when `v` is a candidate above the threshold and every candidate above it is at least `v`. -/
theorem next_eq {C : Type} [Fintype C] (cand : C → EReal) (t v : EReal) (h : ∃ c, cand c = v) (ht : t < v)
    (hle : ∀ c, t < cand c → v ≤ cand c) : next cand t = v := by
  apply le_antisymm
  · obtain ⟨c, rfl⟩ := h
    refine (Finset.fold_min_le _).mpr (Or.inr ⟨c, mem_univ _, ?_⟩)
    simp [ht]
  · refine (Finset.le_fold_min _).mpr ⟨le_top, fun c _ => ?_⟩
    by_cases hc : t < cand c
    · simpa [hc] using hle c hc
    · simp [hc]

section
variable {ι C : Type} [Fintype C] (d : ι → EReal) (σ : Fin 17 → ι) (cand : C → EReal)

/-- `σ` lists the 17 nearest, each strictly farther than the one before, everything else at least as far as the last. -/
structure Sorted : Prop where
  mono : StrictMono fun k => d (σ k)
  rest : ∀ j, (∃ k : Fin 16, j = σ k.castSucc) ∨ d (σ 16) ≤ d j

variable {d σ cand}

/-- The thresholds are the nearest distances in order. -/
theorem iter_eq (hs : Sorted d σ) (hbot : ∀ j, ⊥ < d j) (hA : ∀ k : Fin 16, ∃ c, cand c = d (σ k.castSucc))
    (hB : ∀ c, cand c = ⊤ ∨ ∃ j, cand c = d j) :
    ∀ k : Fin 16, iter cand ⊥ (k.val + 1) = d (σ k.castSucc) := by
  have main : ∀ n (hn : n < 16), iter cand ⊥ (n + 1) = d (σ ⟨n, by omega⟩) := by
    intro n
    induction n with
    | zero =>
      intro hn
      refine next_eq _ _ _ (hA 0) (hbot _) fun c _ => ?_
      rcases hB c with e | ⟨j, e⟩
      · rw [e]; exact le_top
      · rw [e]
        rcases hs.rest j with ⟨k, rfl⟩ | h
        · exact hs.mono.monotone (Fin.mk_le_of_le_val (Nat.zero_le _))
        · exact (hs.mono.monotone (Fin.mk_le_of_le_val (Nat.zero_le _))).trans h
    | succ n ih =>
      intro hn
      have hp := ih (by omega)
      show next cand (iter cand ⊥ (n + 1)) = _
      rw [hp]
      refine next_eq _ _ _ (hA ⟨n + 1, hn⟩) (hs.mono (by simp [Fin.lt_def])) fun c hc => ?_
      rcases hB c with e | ⟨j, e⟩
      · rw [e]; exact le_top
      · rw [e] at hc ⊢
        rcases hs.rest j with ⟨k, rfl⟩ | h
        · have : (⟨n, by omega⟩ : Fin 17) < k.castSucc := hs.mono.lt_iff_lt.mp hc
          exact hs.mono.monotone (by simp only [Fin.lt_def, Fin.le_def] at this ⊢; omega)
        · exact (hs.mono.monotone (by simp only [Fin.le_def]; show n + 1 ≤ 16; omega)).trans h
  exact fun k => main k.val k.isLt

/-- At or below the last threshold are exactly the 16 nearest. -/
theorem le_last (hs : Sorted d σ) (j : ι) : d j ≤ d (σ 15) ↔ ∃ k : Fin 16, j = σ k.castSucc := by
  constructor
  · intro h
    rcases hs.rest j with h' | h'
    · exact h'
    · exact absurd (h'.trans h) (not_le.mpr (hs.mono (by decide)))
  · rintro ⟨k, rfl⟩
    exact hs.mono.monotone (by simp only [Fin.le_def, Fin.val_castSucc]; show k.val ≤ 15; omega)

/-- A sum over all points of what the mask keeps is the sum over the 16 nearest. -/
theorem sum_mask [Fintype ι] (hs : Sorted d σ) (w h : ι → EReal) :
    ∑ j, (if d j ≤ d (σ 15) then w j else 0) * h j = ∑ k : Fin 16, w (σ k.castSucc) * h (σ k.castSucc) := by
  classical
  have hinj : Function.Injective fun k : Fin 16 => σ k.castSucc := fun a b e => by
    have : d (σ a.castSucc) = d (σ b.castSucc) := congrArg d e
    exact Fin.castSucc_injective _ (hs.mono.injective this)
  have e1 : ∀ j, (if d j ≤ d (σ 15) then w j else 0) * h j
      = if j ∈ univ.image (fun k : Fin 16 => σ k.castSucc) then w j * h j else 0 := by
    intro j
    by_cases hj : d j ≤ d (σ 15)
    · have := (le_last hs j).mp hj
      obtain ⟨k, rfl⟩ := this
      simp [hj]
    · have hn : ¬ ∃ k : Fin 16, j = σ k.castSucc := fun h => hj ((le_last hs j).mpr h)
      have hn' : j ∉ univ.image (fun k : Fin 16 => σ k.castSucc) := by
        intro hm
        obtain ⟨k, _, e⟩ := mem_image.mp hm
        exact hn ⟨k, e.symm⟩
      rw [if_neg hj, if_neg hn', zero_mul]
  rw [sum_congr rfl fun j _ => e1 j, sum_ite_mem, univ_inter, sum_image fun a _ b _ e => hinj e]

end

end Cert.Rounds
-- ==== Proof.KernelAt.lean ====
/- The stages of the kernel's block, read at an index. -/
module

public import proofs.«01_k».proof.Proof.KernelNet
public import proofs.«01_k».proof.Proof.Rounds

@[expose] public section

set_option maxRecDepth 16384

noncomputable section

namespace Cert.KernelIdeal.Block

open Idealize.ShloMosaic Cert.KernelIdeal Cert.KernelIdeal.Gen Cert.Rounds

local notation "𝕀" => Idealize.ShloMosaic.Ideal

/-- A distance of the kernel, the query's own square left out. -/
theorem pay7_at (P : Vec 𝕀 S1x3x8192 .f32) (q : Vec 𝕀 S1x1024x3 .f32) (r : Fin 1024) (j : Fin 8192) :
    k0_pay7 (F := 𝕀) P q (ix2 r j) = Ideal.ofBits .f32 1048576000#32 * ∑ x : Fin 3, P (ix3 0 x j) * P (ix3 0 x j)
      + ∑ x : Fin 3, q (ix3 0 r x) * P (ix3 0 x j) := by
  pointwise [k0_pay7, k0_pay6]

/-- A feature in the table. -/
theorem pay3_at (C : Vec 𝕀 S1x8192x3 .f32) (w1 : Vec 𝕀 S3x128 .f32) (b1 : Vec 𝕀 S1x128 .f32) (w2 : Vec 𝕀 S128x128 .f32)
    (b2 : Vec 𝕀 S1x128 .f32) (j : Fin 8192) (c : Fin 128) : k0_pay3 (F := 𝕀) C w1 b1 w2 b2 (ix2 j c)
      = (∑ x : Fin 128, max ((∑ z : Fin 3, C (ix3 0 j z) * w1 (ix2 z x)) + b1 (ix2 0 x)) 0 * w2 (ix2 x c))
        + b2 (ix2 0 c) := by
  pointwise [k0_pay3, k0_pay2]

/-- A point in the table. -/
theorem pay4_at (C : Vec 𝕀 S1x8192x3 .f32) (j : Fin 8192) (c : Fin 3) :
    k0_pay4 (F := 𝕀) C (ix2 j c) = C (ix3 0 j c) := by
  pointwise [k0_pay4, k0_pay2]

/-- The table's last column is one. -/
theorem pay5_at (j : Fin 8192) (c : Fin 1) : k0_pay5 (F := 𝕀) (ix2 j c) = (1 : EReal) := by
  pointwise [k0_pay5]

/-- The candidates past a threshold, the greatest value in the place of the others. -/
def mask (v : FVec 𝕀 S1024x384 .f32) (t : FVec 𝕀 S1024x1 .f32) : FVec 𝕀 S1024x384 .f32 :=
  select (cmpf .ogt v (broadcastTo S1024x384 t broadcasts_S1024x1_S1024x384)) v
    (broadcast S1024x384 (Scalar.ofBits .f32 0x7F800000#32))

/-- A round read at a query. -/
theorem round_at (v : FVec 𝕀 S1024x384 .f32) (t : FVec 𝕀 S1024x1 .f32) (r : Fin 1024) :
    k0_pay239 (F := 𝕀) (mask v t) (ix2 r 0) = next (fun e : Fin 384 => v (ix2 r e)) (t (ix2 r 0)) := by
  pointwise [k0_pay239, mask]
  rw [inf_eq]
  rfl

variable (P : Vec 𝕀 S1x3x8192 .f32) (q : Vec 𝕀 S1x1024x3 .f32)

/-- The threshold after `n` rounds past the first. -/
def thr : ℕ → FVec 𝕀 S1024x1 .f32
  | 0 => k0_pay239 (cand1 P q)
  | n + 1 => k0_pay239 (mask (cand P q) (thr n))

/-- The eighth threshold. -/
theorem pay240_eq : k0_pay240 (cand P q) (cand1 P q) = broadcastTo S1024x384 (thr P q 7) broadcasts_S1024x1_S1024x384 := rfl

/-- The candidates of the last round. -/
theorem pay241_eq : k0_pay241 (cand P q) (k0_pay240 (cand P q) (cand1 P q)) = mask (cand P q) (thr P q 14) := rfl

/-- The thresholds are the iterated rounds. -/
theorem thr_at (r : Fin 1024) (n : ℕ) : thr P q n (ix2 r 0) = iter (fun e : Fin 384 => cand P q (ix2 r e)) ⊥ (n + 1) := by
  induction n with
  | zero =>
    show k0_pay239 (cand1 P q) (ix2 r 0) = next _ ⊥
    unfold cand1
    pointwise [k0_pay239, k0_pay238]
    rw [inf_eq, show (0 : EReal) - ⊤ = ⊥ from EReal.sub_top 0]
    rfl
  | succ n ih => exact (round_at _ _ r).trans (congrArg _ ih)

/-- The weighted sum of column `c` of the table `H` for query `r`. -/
def wsum (H : Vec 𝕀 S8192x132 .f32) (r : Fin 1024) (c : Fin 132) : EReal :=
  ∑ j : Fin 8192, (if k0_pay7 (F := 𝕀) P q (ix2 r j) ≤ iter (fun e : Fin 384 => cand P q (ix2 r e)) ⊥ 16
    then Ideal.exp ((iter (fun e : Fin 384 => cand P q (ix2 r e)) ⊥ 1 - k0_pay7 (F := 𝕀) P q (ix2 r j))
      * Ideal.div 1 (Ideal.ofBits .f32 1008981770#32)) else 0) * H (ix2 j c)

/-- The output block read at an index. -/
theorem block_at (H : Vec 𝕀 S8192x132 .f32) (wv1 : Vec 𝕀 S131x128 .f32) (bv1 : Vec 𝕀 S1x128 .f32) (wv2 : Vec 𝕀 S128x3 .f32)
    (bv2 : Vec 𝕀 S1x3 .f32) (r : Fin 1024) (c : Fin 3) :
    block P q H wv1 bv1 wv2 bv2 (ix3 0 r c) = (∑ x : Fin 128, max (((∑ y : Fin 128,
        Ideal.div (wsum P q H r ⟨y.val, by omega⟩) (wsum P q H r 131) * wv1 (ix2 ⟨y.val, by omega⟩ x))
      + ∑ y : Fin 3, (Ideal.div (wsum P q H r ⟨128 + y.val, by omega⟩) (wsum P q H r 131) - q (ix3 0 r y))
          * wv1 (ix2 ⟨128 + y.val, by omega⟩ x)) + bv1 (ix2 0 x)) 0 * wv2 (ix2 x c)) + bv2 (ix2 0 c) := by
  have e16 : Finset.univ.fold min (⊤ : EReal) (fun x : Fin 384 => mask (cand P q) (thr P q 14) (ix2 r x))
      = iter (fun e : Fin 384 => cand P q (ix2 r e)) ⊥ 16 := by
    rw [← thr_at P q r 15]
    show _ = k0_pay239 (mask (cand P q) (thr P q 14)) (ix2 r 0)
    unfold k0_pay239
    pointwise []
    rw [inf_eq]
  have e1 : k0_pay239 (cand1 P q) (ix2 r 0) = iter (fun e : Fin 384 => cand P q (ix2 r e)) ⊥ 1 := thr_at P q r 0
  have ea : ∀ (y x : Fin 128), View.ld wv1 (Rect.unit ![0, 0] ![128, 128] inb_S131x128_S128x128_0_0) (ix2 y x)
      = wv1 (ix2 ⟨y.val, by omega⟩ x) := fun y x => by
    rw [View.ld_apply]
    refine congrArg wv1 (funext fun a => ?_)
    match a with
    | ⟨0, _⟩ => exact Fin.ext (by simp [Rect.idx_unit_val])
    | ⟨1, _⟩ => exact Fin.ext (by simp [Rect.idx_unit_val])
  have eb : ∀ (y : Fin 3) (x : Fin 128), View.ld wv1 (Rect.unit ![128, 0] ![3, 128] inb_S131x128_S3x128_128_0) (ix2 y x)
      = wv1 (ix2 ⟨128 + y.val, by omega⟩ x) := fun y x => by
    rw [View.ld_apply]
    refine congrArg wv1 (funext fun a => ?_)
    match a with
    | ⟨0, _⟩ => exact Fin.ext (by simp [Rect.idx_unit_val])
    | ⟨1, _⟩ => exact Fin.ext (by simp [Rect.idx_unit_val])
  unfold block
  rw [pay241_eq]
  pointwise [k0_pay1, k0_pay242]
  simp only [inf_eq, e16, e1, ea, eb]
  pointwise [k0_pay6]
  rfl

end Cert.KernelIdeal.Block
-- ==== Proof.Candidates.lean ====
/- The kernel's candidates hold the sixteen nearest, three to a lane at most being enough. -/
module

public import proofs.«01_k».proof.Proof.KernelAt

@[expose] public section

set_option maxRecDepth 16384

noncomputable section

namespace Cert.KernelIdeal.Block

open Idealize.ShloMosaic Cert.KernelIdeal Cert.KernelIdeal.Gen Cert.Rounds Cert.TopThree

local notation "𝕀" => Idealize.ShloMosaic.Ideal

variable (P : Vec 𝕀 S1x3x8192 .f32) (q : Vec 𝕀 S1x1024x3 .f32) (r : Fin 1024)

/-- The distances of query `r`. -/
def dist (j : Fin 8192) : EReal := k0_pay7 (F := 𝕀) P q (ix2 r j)

theorem dd_eq (n : ℕ) (h : n < 8192) : dd P q r n = dist P q r ⟨n, h⟩ := dif_pos h

/-- The list of a lane, its first value kept apart or not. -/
theorem lane_list (f : ℕ → EReal) : f 0 :: (List.range 63).map (fun a => f (a + 1)) = (List.range 64).map f := by
  rw [List.range_succ_eq_map, List.map_cons, List.map_map]
  rfl

theorem tri63_lane (l : Fin 128) : tri63 P q (ix2 r l)
    = net (dd P q r (128 * 0 + l.val)) ((List.range 63).map fun a => dd P q r (128 * (a + 1) + l.val)) :=
  tri63_at P q r l

/-- A number a lane's network yields is the greatest value or one of the distances. -/
theorem of_mem_lane (l : Fin 128) (x : EReal)
    (h : x = ⊤ ∨ x ∈ (List.range 64).map fun a => dd P q r (128 * a + l.val)) : x = ⊤ ∨ ∃ j, x = dist P q r j := by
  refine h.imp id fun h => ?_
  obtain ⟨a, ha, rfl⟩ := List.mem_map.mp h
  have := List.mem_range.mp ha
  exact ⟨⟨128 * a + l.val, by omega⟩, dd_eq P q r _ _⟩

/-- Every candidate is the greatest value or one of the distances. -/
theorem cand_from (e : Fin 384) : cand P q (ix2 r e) = ⊤ ∨ ∃ j, cand P q (ix2 r e) = dist P q r j := by
  have key : ∀ l : Fin 128, From (tri63 P q (ix2 r l)) ((List.range 64).map fun a => dd P q r (128 * a + l.val)) := by
    intro l
    rw [tri63_lane, ← lane_list (fun a => dd P q r (128 * a + l.val))]
    exact from_net _ _
  rw [cand_at]
  by_cases h : e.val < 128
  · rw [dif_pos h]
    exact of_mem_lane P q r ⟨e.val, h⟩ _ (key _).1
  · rw [dif_neg h]
    by_cases h' : e.val - 128 < 128
    · rw [dif_pos h']
      exact of_mem_lane P q r ⟨e.val - 128, h'⟩ _ (key _).2.1
    · rw [dif_neg h']
      exact of_mem_lane P q r ⟨e.val - 128 - 128, by omega⟩ _ (key _).2.2

variable {σ : Fin 17 → Fin 8192}

/-- Every one of the sixteen nearest is a candidate when a lane holds three of them at most. -/
theorem cand_mem (hs : Sorted (dist P q r) σ) (htop : ∀ j, dist P q r j < ⊤)
    (hl : ∀ k : Fin 16, (Finset.univ.filter fun k' : Fin 16 =>
      (σ k'.castSucc).val % 128 = (σ k.castSucc).val % 128).card ≤ 3) (k : Fin 16) :
    ∃ e : Fin 384, cand P q (ix2 r e) = dist P q r (σ k.castSucc) := by
  set j := σ k.castSucc with hj
  have hjl := j.isLt
  let l : Fin 128 := ⟨j.val % 128, Nat.mod_lt _ (by omega)⟩
  have hm : dist P q r j ∈ (List.range 64).map fun a => dd P q r (128 * a + l.val) := by
    refine List.mem_map.mpr ⟨j.val / 128, List.mem_range.mpr (by omega), ?_⟩
    have : 128 * (j.val / 128) + l.val = j.val := Nat.div_add_mod _ _
    rw [this, dd_eq P q r _ hjl]
  have hc : ((List.range 64).map fun a => dd P q r (128 * a + l.val)).countP (· ≤ dist P q r j) ≤ 3 := by
    refine le_trans ?_ (hl k)
    rw [List.countP_map, List.countP_eq_length_filter]
    have e1 : ((List.range 64).filter ((fun x => decide (x ≤ dist P q r j)) ∘ fun a => dd P q r (128 * a + l.val))).length
        = ((List.range 64).filter ((fun x => decide (x ≤ dist P q r j)) ∘ fun a => dd P q r (128 * a + l.val))).toFinset.card :=
      (List.toFinset_card_of_nodup (List.nodup_range.filter _)).symm
    rw [e1]
    refine (Finset.card_le_card ?_).trans (Finset.card_image_le (f := fun k' : Fin 16 => (σ k'.castSucc).val / 128))
    intro a ha
    obtain ⟨ha, hle⟩ := List.mem_filter.mp (List.mem_toFinset.mp ha)
    have ha := List.mem_range.mp ha
    have hle : dd P q r (128 * a + l.val) ≤ dist P q r j := of_decide_eq_true hle
    rw [dd_eq P q r _ (by omega)] at hle
    have h15 : dist P q r j ≤ dist P q r (σ 15) := hs.mono.monotone (by
      simp only [Fin.le_def]; show k.val ≤ 15; omega)
    obtain ⟨k', hk'⟩ := (le_last hs _).mp (hle.trans h15)
    have hv : 128 * a + l.val = (σ k'.castSucc).val := congrArg Fin.val hk'
    refine Finset.mem_image.mpr ⟨k', Finset.mem_filter.mpr ⟨Finset.mem_univ _, ?_⟩, by show _ / 128 = a; omega⟩
    show (σ k'.castSucc).val % 128 = j.val % 128
    have : l.val = j.val % 128 := rfl
    omega
  have hm' := mem_net (dd P q r (128 * 0 + l.val)) ((List.range 63).map fun a => dd P q r (128 * (a + 1) + l.val))
    (htop j) (by rw [lane_list (fun a => dd P q r (128 * a + l.val))]; exact hm)
    (by rw [lane_list (fun a => dd P q r (128 * a + l.val))]; exact hc)
  rw [← tri63_lane] at hm'
  rcases hm' with h | h | h
  · refine ⟨⟨l.val, by omega⟩, ?_⟩
    rw [cand_at, dif_pos (show l.val < 128 from l.isLt)]
    exact h.symm
  · refine ⟨⟨l.val + 128, by omega⟩, ?_⟩
    rw [cand_at, dif_neg (by show ¬ l.val + 128 < 128; omega), dif_pos (by show l.val + 128 - 128 < 128; omega), h]
    refine congrArg (fun i : Fin 128 => (tri63 P q (ix2 r i)).2.1) (Fin.ext ?_)
    show l.val + 128 - 128 = l.val
    omega
  · refine ⟨⟨l.val + 256, by omega⟩, ?_⟩
    rw [cand_at, dif_neg (by show ¬ l.val + 256 < 128; omega), dif_neg (by show ¬ l.val + 256 - 128 < 128; omega), h]
    refine congrArg (fun i : Fin 128 => (tri63 P q (ix2 r i)).2.2) (Fin.ext ?_)
    show l.val + 256 - 128 - 128 = l.val
    omega

end Cert.KernelIdeal.Block
-- ==== Proof.KernelTable.lean ====
/- The kernel's feature table, read at an index. -/
module

public import proofs.«01_k».proof.Proof.KernelAt

@[expose] public section

set_option maxRecDepth 16384

noncomputable section

namespace Cert.KernelIdeal.Block

open Idealize.ShloMosaic Cert.KernelIdeal Cert.KernelIdeal.Gen

local notation "𝕀" => Idealize.ShloMosaic.Ideal

variable (C : Vec 𝕀 S1x8192x3 .f32) (w1 : Vec 𝕀 S3x128 .f32) (b1 : Vec 𝕀 S1x128 .f32) (w2 : Vec 𝕀 S128x128 .f32)
  (b2 : Vec 𝕀 S1x128 .f32) (j : Fin 8192)

/-- A column of the table: a feature, a coordinate or one. -/
theorem table_at (c : Fin 132) (v : EReal) (g1 : c.val = 131 → v = 1)
    (g2 : ∀ k : Fin 3, c.val = 128 + k.val → v = k0_pay4 (F := 𝕀) C (ix2 j k))
    (g3 : ∀ k : Fin 128, c.val = k.val → v = k0_pay3 (F := 𝕀) C w1 b1 w2 b2 (ix2 j k)) :
    table C w1 b1 w2 b2 (ix2 j c) = v := by
  have cover : ∃ p ∈ ([⟨Rect.unit ![0, 131] ![8192, 1] inb_S8192x132_S8192x1_0_131, k0_pay5 (F := 𝕀)⟩,
      ⟨Rect.unit ![0, 128] ![8192, 3] inb_S8192x132_S8192x3_0_128, k0_pay4 C⟩,
      ⟨Rect.unit ![0, 0] ![8192, 128] inb_S8192x132_S8192x128_0_0, k0_pay3 C w1 b1 w2 b2⟩]
        : List (View.Piece (Elt 𝕀) S8192x132 .f32)), (ix2 j c : S8192x132.Idx) ∈ p.1.set := by
    have hj := j.isLt
    have hc := c.isLt
    have mem : ∀ (o n : ℕ) (inb), o ≤ c.val → c.val < o + n →
        (ix2 j c : S8192x132.Idx) ∈ (Rect.unit (s := S8192x132) ![0, o] ![8192, n] inb).set := by
      intro o n inb ho hn
      refine Rect.mem_set_unit.mpr fun a => ?_
      match a with
      | ⟨0, _⟩ => exact ⟨Nat.zero_le _, by show j.val < 0 + 8192; omega⟩
      | ⟨1, _⟩ => exact ⟨ho, hn⟩
    by_cases h : c.val < 128
    · exact ⟨_, List.mem_cons_of_mem _ (List.mem_cons_of_mem _ List.mem_cons_self), mem 0 128 inb_S8192x132_S8192x128_0_0 (by omega) (by omega)⟩
    · by_cases h' : c.val < 131
      · exact ⟨_, List.mem_cons_of_mem _ List.mem_cons_self, mem 128 3 inb_S8192x132_S8192x3_0_128 (by omega) (by omega)⟩
      · exact ⟨_, List.mem_cons_self, mem 131 1 inb_S8192x132_S8192x1_0_131 (by omega) (by omega)⟩
  unfold table
  canon_tiles x h using cover
  · rw [g1 (by have : c.val = 131 + (x 1).val := h1; omega), eq_ix2 x]
    exact pay5_at _ _
  · rw [g2 ⟨(x 1).val, x1_lt⟩ h1]
    exact congrArg (k0_pay4 (F := 𝕀) C) ((eq_ix2 x).trans (congrArg₂ ix2 (Fin.ext h0.symm) rfl))
  · rw [g3 ⟨(x 1).val, x1_lt⟩ h1]
    exact congrArg (k0_pay3 (F := 𝕀) C w1 b1 w2 b2) ((eq_ix2 x).trans (congrArg₂ ix2 (Fin.ext h0.symm) rfl))

/-- A feature column. -/
theorem table_feat (c : Fin 128) :
    table C w1 b1 w2 b2 (ix2 j ⟨c.val, by omega⟩) = k0_pay3 (F := 𝕀) C w1 b1 w2 b2 (ix2 j c) :=
  table_at C w1 b1 w2 b2 j _ _ (fun h => absurd h (by show ¬ c.val = 131; omega))
    (fun k h => absurd h (by show ¬ c.val = 128 + k.val; omega)) (fun k h => by rw [show c = k from Fin.ext h])

/-- A coordinate column. -/
theorem table_point (c : Fin 3) :
    table C w1 b1 w2 b2 (ix2 j ⟨128 + c.val, by omega⟩) = C (ix3 0 j c) :=
  table_at C w1 b1 w2 b2 j _ _ (fun h => absurd h (by show ¬ 128 + c.val = 131; omega))
    (fun k h => by rw [pay4_at, show c = k from Fin.ext (Nat.add_left_cancel h)])
    (fun k h => absurd h (by show ¬ 128 + c.val = k.val; omega))

/-- The last column. -/
theorem table_one : table C w1 b1 w2 b2 (ix2 j 131) = 1 :=
  table_at C w1 b1 w2 b2 j _ _ (fun _ => rfl) (fun k h => absurd h (by show ¬ 131 = 128 + k.val; omega))
    (fun k h => absurd h (by show ¬ 131 = k.val; omega))

end Cert.KernelIdeal.Block
-- ==== Proof.Order.lean ====
/- The sorted order of a row of values, and what a top-k and a gather along it read. -/
module

public import Idealize.ShloMosaic.Lib.Pointwise
public import Idealize.ShloMosaic.Lib.SortFacts
public import Idealize.ShloMosaic.PureOps.Ideal
public import proofs.«01_k».proof.Proof.Rounds

@[expose] public section

set_option maxRecDepth 16384

noncomputable section

namespace Cert.Order

open Idealize.ShloMosaic

local notation "𝕀" => Idealize.ShloMosaic.Ideal

/-- Position `k` of the row `y` sorted from the greatest down, equal values in index order. -/
def rank (y : Fin 8192 → EReal) : Fin 8192 → Fin 8192 :=
  sortedFrom fun k k' => Ideal.cmpTotal .gt (y k) (y k') == 1#1

theorem rank_before (a b : EReal) : (Ideal.cmpTotal .gt a b == 1#1) = decide (b < a) := by
  by_cases h : b < a <;> simp [Ideal.cmpTotal, Ideal.cmp, CmpDirection.ordered, h]

theorem rank_surjective (y : Fin 8192 → EReal) : Function.Surjective (rank y) := sortedFrom_surjective _
theorem rank_injective (y : Fin 8192 → EReal) : Function.Injective (rank y) := sortedFrom_injective _

/-- Along the order the values never go up. -/
theorem rank_antitone (y : Fin 8192 → EReal) {i j : Fin 8192} (h : i ≤ j) : y (rank y j) ≤ y (rank y i) := by
  rcases h.eq_or_lt with rfl | h
  · exact le_rfl
  have := sortedFrom_noInversion (fun k k' => decide (y k' < y k))
    (fun k k' => Ideal.cmpTotal .gt (y k) (y k') == 1#1)
    (fun a b hab => by rw [rank_before] at hab; simp only [decide_eq_true_eq, decide_eq_false_iff_not] at hab ⊢; exact hab.not_gt)
    (fun a b hab => by rw [rank_before]; exact hab)
    (fun a b c hab hbc => by
      simp only [decide_eq_false_iff_not, not_lt] at hab hbc ⊢; exact hab.trans hbc)
    i j h
  exact not_lt.mp (of_decide_eq_false this)

theorem along_last (B R : ℕ) (b : Fin B) (r : Fin R) (k k' : Fin 8192) (h : 2 < (⟨3, ![B, R, 8192]⟩ : Shape).rank) :
    Shape.Idx.along (s := ⟨3, ![B, R, 8192]⟩) (ix3 b r k) ⟨2, h⟩ k' = ix3 b r k' := by
  funext a
  match a with
  | ⟨0, _⟩ => rfl
  | ⟨1, _⟩ => rfl
  | ⟨2, _⟩ => rfl

/-- A sort of values with their indices along the last axis of three, read at a position. -/
theorem sort2_at (B R : ℕ) (x : FVec 𝕀 ⟨3, ![B, R, 8192]⟩ .f32) (b : Fin B) (r : Fin R) (k : Fin 8192) :
    (Host.sort2 (⟨3, ![B, R, 8192]⟩ : Shape) 2
        (fun l r : 𝕀 .f32 × BitVec 32 => FloatOps.cmpfTotal (F := 𝕀) .gt l.1 r.1) x
        (fun i => BitVec.ofNat 32 (i 2).val)).1 (ix3 b r k) = x (ix3 b r (rank (fun j => x (ix3 b r j)) k))
    ∧ (Host.sort2 (⟨3, ![B, R, 8192]⟩ : Shape) 2
        (fun l r : 𝕀 .f32 × BitVec 32 => FloatOps.cmpfTotal (F := 𝕀) .gt l.1 r.1) x
        (fun i => BitVec.ofNat 32 (i 2).val)).2 (ix3 b r k) = BitVec.ofNat 32 (rank (fun j => x (ix3 b r j)) k).val := by
  have h : 2 < (⟨3, ![B, R, 8192]⟩ : Shape).rank := by show 2 < 3; decide
  unfold Host.sort2
  rw [dif_pos h]
  dsimp only
  have hr : sortedFrom (n := 8192) (fun u v : Fin 8192 => FloatOps.cmpfTotal (F := 𝕀) (φ := .f32) .gt
        (x ((ix3 b r k : (⟨3, ![B, R, 8192]⟩ : Shape).Idx).along ⟨2, h⟩ u))
        (x ((ix3 b r k : (⟨3, ![B, R, 8192]⟩ : Shape).Idx).along ⟨2, h⟩ v)) == 1#1) k
      = rank (fun j => x (ix3 b r j)) k :=
    congrFun (congrArg (sortedFrom (n := 8192)) (funext fun u => funext fun v =>
      congrArg₂ (fun a c => (Ideal.cmpTotal .gt (x a) (x c) == 1#1)) (along_last B R b r k u h)
        (along_last B R b r k v h))) k
  refine ⟨(congrArg x (along_last B R b r k _ h)).trans (congrArg (fun u => x (ix3 b r u)) hr),
    (congrArg (fun i : (⟨3, ![B, R, 8192]⟩ : Shape).Idx => BitVec.ofNat 32 (i 2).val)
      (along_last B R b r k _ h)).trans (congrArg (fun u : Fin 8192 => BitVec.ofNat 32 u.val) hr)⟩

/-- A top-k along the last axis of three reads the sorted row: its values. -/
theorem topK_val (B R K : ℕ) (hK : K ≤ 8192) (x : FVec 𝕀 ⟨3, ![B, R, 8192]⟩ .f32)
    (h : (⟨3, ![B, R, 8192]⟩ : Shape).Slices (fun _ => 0) ⟨3, ![B, R, K]⟩) (b : Fin B) (r : Fin R) (k : Fin K) :
    (Host.topK ⟨3, ![B, R, K]⟩ 2 (FloatOps.cmpfTotal .gt) x h).1 (ix3 b r k)
      = x (ix3 b r (rank (fun j => x (ix3 b r j)) ⟨k.val, by omega⟩)) := by
  rw [← (sort2_at B R x b r _).1]
  refine congrArg (Prod.fst (Host.sort2 (⟨3, ![B, R, 8192]⟩ : Shape) 2
        (fun l r : 𝕀 .f32 × BitVec 32 => FloatOps.cmpfTotal (F := 𝕀) .gt l.1 r.1) x
        (fun i => BitVec.ofNat 32 (i 2).val))) ?_
  funext a
  match a with
  | ⟨0, _⟩ => exact Fin.ext (Nat.zero_add _)
  | ⟨1, _⟩ => exact Fin.ext (Nat.zero_add _)
  | ⟨2, _⟩ => exact Fin.ext (Nat.zero_add _)

/-- A top-k along the last axis of three reads the sorted row: its indices. -/
theorem topK_idx (B R K : ℕ) (hK : K ≤ 8192) (x : FVec 𝕀 ⟨3, ![B, R, 8192]⟩ .f32)
    (h : (⟨3, ![B, R, 8192]⟩ : Shape).Slices (fun _ => 0) ⟨3, ![B, R, K]⟩) (b : Fin B) (r : Fin R) (k : Fin K) :
    (Host.topK ⟨3, ![B, R, K]⟩ 2 (FloatOps.cmpfTotal .gt) x h).2 (ix3 b r k)
      = BitVec.ofNat 32 (rank (fun j => x (ix3 b r j)) ⟨k.val, by omega⟩).val := by
  rw [← (sort2_at B R x b r _).2]
  refine congrArg (Prod.snd (Host.sort2 (⟨3, ![B, R, 8192]⟩ : Shape) 2
        (fun l r : 𝕀 .f32 × BitVec 32 => FloatOps.cmpfTotal (F := 𝕀) .gt l.1 r.1) x
        (fun i => BitVec.ofNat 32 (i 2).val))) ?_
  funext a
  match a with
  | ⟨0, _⟩ => exact Fin.ext (Nat.zero_add _)
  | ⟨1, _⟩ => exact Fin.ext (Nat.zero_add _)
  | ⟨2, _⟩ => exact Fin.ext (Nat.zero_add _)

/-- The nearest are the top of the order: with `y = -(a + d)` and the first 17 values strictly falling. -/
theorem sorted_of_rank (y d : Fin 8192 → EReal) (hyd : ∀ i j, d i ≤ d j ↔ y j ≤ y i)
    (hs : ∀ k : Fin 16, y (rank y ⟨k.val + 1, by omega⟩) < y (rank y ⟨k.val, by omega⟩)) :
    Cert.Rounds.Sorted d fun k : Fin 17 => rank y ⟨k.val, by omega⟩ where
  mono := by
    have hlt : ∀ i j, d i < d j ↔ y j < y i := fun i j => by
      rw [← not_le, ← not_le, hyd]
    refine Fin.strictMono_iff_lt_succ.mpr fun k => ?_
    rw [hlt]
    exact hs k
  rest := by
    intro j
    obtain ⟨i, rfl⟩ := rank_surjective y j
    by_cases hi : i.val < 16
    · exact Or.inl ⟨⟨i.val, hi⟩, rfl⟩
    · refine Or.inr ((hyd _ _).mpr (rank_antitone y ?_))
      simp only [Fin.le_def]
      show 16 ≤ i.val
      omega

end Cert.Order
-- ==== Proof.ReferenceParts.lean ====
/- The reference's result as a composition of named stages over plain arrays. -/
module

public import proofs.«01_k».proof.Proof.Gen.ReferenceIdeal.Run
public import Idealize.ShloMosaic.PureOps.Ideal
public import Idealize.ShloMosaic.PureOps.IdealRules

@[expose] public section

set_option maxRecDepth 16384

noncomputable section

namespace Cert.ReferenceIdeal.Parts

open Idealize.ShloMosaic Idealize.SL.Sem Cert.ReferenceIdeal Cert.ReferenceIdeal.Gen Facts

local notation "𝕀" => Idealize.ShloMosaic.Ideal

/-- The negated squared distances. -/
def negd (q : FVec 𝕀 S4x2048x3 .f32) (p : FVec 𝕀 S4x8192x3 .f32) : FVec 𝕀 S4x2048x8192 .f32 :=
  Host.negf (subf (addf
    (broadcastInDim S4x2048x8192 ![0, 1, 2] bcast_S4x2048x1_S4x2048x8192_0_1_2
      (broadcastInDim S4x2048x1 ![0, 1] bcast_S4x2048_S4x2048x1_0_1
        (Host.reduceAdd (mulf q q) (constant S_ .f32 0x00000000#32) reducesTo_S4x2048x3_S4x2048_d2 h_S_)))
    (broadcastInDim S4x2048x8192 ![0, 1, 2] bcast_S4x1x8192_S4x2048x8192_0_1_2
      (broadcastInDim S4x1x8192 ![0, 2] bcast_S4x8192_S4x1x8192_0_2
        (Host.reduceAdd (mulf p p) (constant S_ .f32 0x00000000#32) reducesTo_S4x8192x3_S4x8192_d2 h_S_))))
    (mulf (broadcastInDim S4x2048x8192 ![] bcast_S_S4x2048x8192 (constant S_ .f32 0x40000000#32))
      (Host.dotGeneral dot_S4x2048x3_S4x8192x3_S4x2048x8192_2_2_1_1_0_0 none q p)))

/-- The features of every context point. -/
def feat (p : FVec 𝕀 S4x8192x3 .f32) (w1 : FVec 𝕀 S3x128 .f32) (b1 : FVec 𝕀 S128 .f32) (w2 : FVec 𝕀 S128x128 .f32)
    (b2 : FVec 𝕀 S128 .f32) : FVec 𝕀 S4x8192x128 .f32 :=
  addf (Host.dotGeneral dot_S4x8192x128_S128x128_S4x8192x128_2_0_01_1_n_n none
      (maximumf (addf (Host.dotGeneral dot_S4x8192x3_S3x128_S4x8192x128_2_0_01_1_n_n none p w1)
          (broadcastInDim S4x8192x128 ![0, 1, 2] bcast_S1x1x128_S4x8192x128_0_1_2
            (broadcastInDim S1x1x128 ![2] bcast_S128_S1x1x128_2 b1)))
        (broadcastInDim S4x8192x128 ![] bcast_S_S4x8192x128 (constant S_ .f32 0x00000000#32))) w2)
    (broadcastInDim S4x8192x128 ![0, 1, 2] bcast_S1x1x128_S4x8192x128_0_1_2
      (broadcastInDim S1x1x128 ![2] bcast_S128_S1x1x128_2 b2))

/-- The exponentials of the 16 kept values over the temperature, the greatest taken off. -/
def expo (v : FVec 𝕀 S4x2048x16 .f32) : FVec 𝕀 S4x2048x16 .f32 :=
  Host.exp (subf
    (Host.divf v (broadcastInDim S4x2048x16 ![] bcast_S_S4x2048x16 (constant S_ .f32 0x3C23D70A#32)))
    (broadcastInDim S4x2048x16 ![0, 1, 2] bcast_S4x2048x1_S4x2048x16_0_1_2
      (broadcastInDim S4x2048x1 ![0, 1] bcast_S4x2048_S4x2048x1_0_1
        (maximumf (broadcastInDim S4x2048 ![] bcast_S_S4x2048 (constant S_ .f32 0xFF800000#32))
          (Host.reduce FloatOps.maximumf
            (Host.divf v (broadcastInDim S4x2048x16 ![] bcast_S_S4x2048x16 (constant S_ .f32 0x3C23D70A#32)))
            (constant S_ .f32 0xFF800000#32) reducesTo_S4x2048x16_S4x2048_d2 h_S_)))))

/-- The softmax weights of the 16 kept values. -/
def wts (v : FVec 𝕀 S4x2048x16 .f32) : FVec 𝕀 S4x2048x16 .f32 :=
  Host.divf (expo v)
    (broadcastInDim S4x2048x16 ![0, 1, 2] bcast_S4x2048x1_S4x2048x16_0_1_2
      (broadcastInDim S4x2048x1 ![0, 1] bcast_S4x2048_S4x2048x1_0_1
        (Host.reduceAdd (expo v) (constant S_ .f32 0x00000000#32) reducesTo_S4x2048x16_S4x2048_d2 h_S_)))

/-- The index words the gathers read, a negative one moved up by 8192. -/
def words (i : IVec S4x2048x16 32) : IVec S4x2048x16x1 32 :=
  broadcastInDim S4x2048x16x1 ![0, 1, 2] bcast_S4x2048x16_S4x2048x16x1_0_1_2
    (select (cmpi .slt i (broadcastInDim S4x2048x16 ![] bcast_S_S4x2048x16 (constantI S_ 32 0#32)))
      (addi i (broadcastInDim S4x2048x16 ![] bcast_S_S4x2048x16 (constantI S_ 32 8192#32))) i)

/-- The gathered rows: 128 features and 3 offsets per kept point. -/
def rows (h : FVec 𝕀 S4x8192x128 .f32) (q : FVec 𝕀 S4x2048x3 .f32) (p : FVec 𝕀 S4x8192x3 .f32)
    (w : IVec S4x2048x16x1 32) : FVec 𝕀 S4x2048x16x131 .f32 :=
  Value.fn_main_v54 (F := 𝕀)
    (Host.gather gather_S4x8192x128_S4x2048x16x1_S4x2048x16x128_3_1_0_0_1_3_11128 h w)
    (subf (Host.gather gather_S4x8192x3_S4x2048x16x1_S4x2048x16x3_3_1_0_0_1_3_113 p w)
      (broadcastInDim S4x2048x16x3 ![0, 1, 2, 3] bcast_S4x2048x1x3_S4x2048x16x3_0_1_2_3
        (broadcastInDim S4x2048x1x3 ![0, 1, 3] bcast_S4x2048x3_S4x2048x1x3_0_1_3 q)))

/-- The weighted sums of the gathered rows. -/
def agg (w : FVec 𝕀 S4x2048x16 .f32) (g : FVec 𝕀 S4x2048x16x131 .f32) : FVec 𝕀 S4x2048x131 .f32 :=
  Host.reduceAdd (mulf
    (broadcastInDim S4x2048x16x131 ![0, 1, 2, 3] bcast_S4x2048x16x1_S4x2048x16x131_0_1_2_3
      (broadcastInDim S4x2048x16x1 ![0, 1, 2] bcast_S4x2048x16_S4x2048x16x1_0_1_2 w)) g)
    (constant S_ .f32 0x00000000#32) reducesTo_S4x2048x16x131_S4x2048x131_d2 h_S_

/-- The last two layers. -/
def tail (a : FVec 𝕀 S4x2048x131 .f32) (wv1 : FVec 𝕀 S131x128 .f32) (bv1 : FVec 𝕀 S128 .f32)
    (wv2 : FVec 𝕀 S128x3 .f32) (bv2 : FVec 𝕀 S3 .f32) : FVec 𝕀 S4x2048x3 .f32 :=
  addf (Host.dotGeneral dot_S4x2048x128_S128x3_S4x2048x3_2_0_01_1_n_n none
      (maximumf (addf (Host.dotGeneral dot_S4x2048x131_S131x128_S4x2048x128_2_0_01_1_n_n none a wv1)
          (broadcastInDim S4x2048x128 ![0, 1, 2] bcast_S1x1x128_S4x2048x128_0_1_2
            (broadcastInDim S1x1x128 ![2] bcast_S128_S1x1x128_2 bv1)))
        (broadcastInDim S4x2048x128 ![] bcast_S_S4x2048x128 (constant S_ .f32 0x00000000#32))) wv2)
    (broadcastInDim S4x2048x3 ![0, 1, 2] bcast_S1x1x3_S4x2048x3_0_1_2
      (broadcastInDim S1x1x3 ![2] bcast_S3_S1x1x3_2 bv2))

/-- The kept values and their indices. -/
def top (x : FVec 𝕀 S4x2048x8192 .f32) : FVec 𝕀 S4x2048x16 .f32 × IVec S4x2048x16 32 :=
  Host.topK S4x2048x16 2 (FloatOps.cmpfTotal .gt) x sliceFits_S4x2048x8192_S4x2048x16

/-- The whole reference. -/
def out (q : FVec 𝕀 S4x2048x3 .f32) (p : FVec 𝕀 S4x8192x3 .f32) (w1 : FVec 𝕀 S3x128 .f32) (b1 : FVec 𝕀 S128 .f32)
    (w2 : FVec 𝕀 S128x128 .f32) (b2 : FVec 𝕀 S128 .f32) (wv1 : FVec 𝕀 S131x128 .f32) (bv1 : FVec 𝕀 S128 .f32)
    (wv2 : FVec 𝕀 S128x3 .f32) (bv2 : FVec 𝕀 S3 .f32) : FVec 𝕀 S4x2048x3 .f32 :=
  tail (agg (wts (top (negd q p)).1) (rows (feat p w1 b1 w2 b2) q p (words (top (negd q p)).2))) wv1 bv1 wv2 bv2

/-- The generated result is the composition of the stages. -/
theorem res_eq (m : (ℓ : Loc nD τ sig) → Buf (Elt 𝕀) ℓ) (c : Dev nD) :
    Value.res_main_v68 (F := 𝕀) m c = out (m ((c.tc : Thread nD τ).loc main_arg0)) (m ((c.tc : Thread nD τ).loc main_arg1))
      (m ((c.tc : Thread nD τ).loc main_arg2)) (m ((c.tc : Thread nD τ).loc main_arg3))
      (m ((c.tc : Thread nD τ).loc main_arg4)) (m ((c.tc : Thread nD τ).loc main_arg5))
      (m ((c.tc : Thread nD τ).loc main_arg6)) (m ((c.tc : Thread nD τ).loc main_arg7))
      (m ((c.tc : Thread nD τ).loc main_arg8)) (m ((c.tc : Thread nD τ).loc main_arg9)) := rfl

end Cert.ReferenceIdeal.Parts
-- ==== Proof.Gather.lean ====
/- What the reference's gathers read: row `w` of batch `b`, the index word clamped to the rows there are. -/
module

public import proofs.«01_k».proof.Proof.ReferenceParts
public import Idealize.ShloMosaic.Lib.Pointwise

@[expose] public section

set_option maxRecDepth 16384

noncomputable section

namespace Cert.ReferenceIdeal.Parts

open Idealize.ShloMosaic Idealize.SL.Sem Cert.ReferenceIdeal Cert.ReferenceIdeal.Gen Facts

local notation "𝕀" => Idealize.ShloMosaic.Ideal

/-- The dimension numbers both gathers have: whole rows of the same batch. -/
abbrev rowDims (C : ℕ) (wf : GatherDims.WF (⟨3, ![4, 8192, C]⟩ : Shape) S4x2048x16x1 ⟨4, ![4, 2048, 16, C]⟩
    [3] [1] [0] [1] [0] 3 ![1, 1, C]) :
    GatherDims (⟨3, ![4, 8192, C]⟩ : Shape) S4x2048x16x1 ⟨4, ![4, 2048, 16, C]⟩ where
  offsetDims := [3]
  collapsedSliceDims := [1]
  operandBatchingDims := [0]
  startIndicesBatchingDims := [0]
  startIndexMap := [1]
  indexVectorDim := 3
  sliceSizes := ![1, 1, C]
  wf := wf

/-- Such a gather read at an index, the index word being a row number. -/
theorem gather_rows_at (C : ℕ) (wf) (h : FVec 𝕀 ⟨3, ![4, 8192, C]⟩ .f32) (w : IVec S4x2048x16x1 32) (b : Fin 4)
    (r : Fin 2048) (k : Fin 16) (c : Fin C) (n : Fin 8192) (hn : w (ix4 b r k 0) = BitVec.ofNat 32 n.val) :
    Host.gather (rowDims C wf) h w (ix4 b r k c) = h (ix3 b n c) := by
  unfold Host.gather
  refine congrArg h (funext fun a => Fin.ext ?_)
  show (rowDims C wf).start (ix4 b r k c) w a + (rowDims C wf).batchCoord (ix4 b r k c) a
    + (rowDims C wf).offCoord (ix4 b r k c) a = _
  have h012 : a = 0 ∨ a = 1 ∨ a = 2 := by
    match a with
    | ⟨0, _⟩ => exact Or.inl rfl
    | ⟨1, _⟩ => exact Or.inr (Or.inl rfl)
    | ⟨2, _⟩ => exact Or.inr (Or.inr rfl)
  rcases h012 with rfl | rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (List.mem_singleton.mpr rfl)]
    rfl
  · rw [GatherDims.batchCoord_eq_zero _ _ _ (fun h => by simp at h),
      GatherDims.offCoord_eq_zero _ _ _ (fun h => ((GatherDims.mem_sKept _ _).mp h).1 (List.mem_singleton.mpr rfl))]
    simp only [Nat.add_zero]
    unfold GatherDims.start
    rw [dif_pos (show (1 : Fin 3) ∈ (rowDims C wf).startIndexMap from List.mem_singleton.mpr rfl)]
    have hsi : (rowDims C wf).siIdx (ix4 b r k c) ⟨List.idxOf (1 : Fin 3) (rowDims C wf).startIndexMap,
        List.idxOf_lt_length_iff.2 (List.mem_singleton.mpr rfl)⟩ = ix4 b r k 0 := by
      funext e; refine Fin.ext ?_
      match e with
      | ⟨0, _⟩ => rfl
      | ⟨1, _⟩ => rfl
      | ⟨2, _⟩ => rfl
      | ⟨3, _⟩ => rfl
    rw [hsi, hn]
    show min (BitVec.ofNat 32 n.val).toInt.toNat (8192 - 1) = n.val
    have : (BitVec.ofNat 32 n.val).toInt = n.val := by
      rw [BitVec.toInt_eq_toNat_cond, BitVec.toNat_ofNat, Nat.mod_eq_of_lt (by omega)]
      rw [if_pos (by omega)]
    rw [this]
    omega
  · have e2 : (rowDims C wf).start (ix4 b r k c) w 2 = 0 := by
      unfold GatherDims.start; rw [dif_neg (fun h => by simp at h)]
    rw [e2, GatherDims.batchCoord_eq_zero _ _ _ (fun h => by simp at h)]
    unfold GatherDims.offCoord
    rw [dif_pos ((GatherDims.mem_sKept _ _).mpr ⟨fun h => by simp at h, fun h => by simp at h⟩)]
    simp only [Nat.zero_add, Nat.add_zero]
    rfl

/-- The gather of the features. -/
theorem gather_feat_at (h : FVec 𝕀 S4x8192x128 .f32) (w : IVec S4x2048x16x1 32) (b : Fin 4) (r : Fin 2048)
    (k : Fin 16) (c : Fin 128) (n : Fin 8192) (hn : w (ix4 b r k 0) = BitVec.ofNat 32 n.val) :
    Host.gather gather_S4x8192x128_S4x2048x16x1_S4x2048x16x128_3_1_0_0_1_3_11128 h w (ix4 b r k c) = h (ix3 b n c) :=
  gather_rows_at 128 _ h w b r k c n hn

/-- The gather of the points. -/
theorem gather_point_at (h : FVec 𝕀 S4x8192x3 .f32) (w : IVec S4x2048x16x1 32) (b : Fin 4) (r : Fin 2048)
    (k : Fin 16) (c : Fin 3) (n : Fin 8192) (hn : w (ix4 b r k 0) = BitVec.ofNat 32 n.val) :
    Host.gather gather_S4x8192x3_S4x2048x16x1_S4x2048x16x3_3_1_0_0_1_3_113 h w (ix4 b r k c) = h (ix3 b n c) :=
  gather_rows_at 3 _ h w b r k c n hn

end Cert.ReferenceIdeal.Parts
-- ==== Proof.ReferenceAt.lean ====
/- Each stage of the reference, read at an index. -/
module

public import proofs.«01_k».proof.Proof.Order
public import proofs.«01_k».proof.Proof.Gather
public import Idealize.ShloMosaic.Lib.Tactic.WordOmega

@[expose] public section

set_option maxRecDepth 16384

noncomputable section

namespace Cert.ReferenceIdeal.Parts

open Idealize.ShloMosaic Idealize.SL.Sem Cert.ReferenceIdeal Cert.ReferenceIdeal.Gen Facts

local notation "𝕀" => Idealize.ShloMosaic.Ideal

/-- A negated squared distance. -/
theorem negd_at (q : FVec 𝕀 S4x2048x3 .f32) (p : FVec 𝕀 S4x8192x3 .f32) (b : Fin 4) (r : Fin 2048) (j : Fin 8192) :
    negd q p (ix3 b r j) = -((∑ x : Fin 3, q (ix3 b r x) * q (ix3 b r x) + ∑ x : Fin 3, p (ix3 b j x) * p (ix3 b j x))
      - Ideal.ofBits .f32 1073741824#32 * ∑ x : Fin 3, q (ix3 b r x) * p (ix3 b j x)) := by
  pointwise [negd]

/-- A feature of a context point. -/
theorem feat_at (p : FVec 𝕀 S4x8192x3 .f32) (w1 : FVec 𝕀 S3x128 .f32) (b1 : FVec 𝕀 S128 .f32) (w2 : FVec 𝕀 S128x128 .f32)
    (b2 : FVec 𝕀 S128 .f32) (b : Fin 4) (j : Fin 8192) (c : Fin 128) :
    feat p w1 b1 w2 b2 (ix3 b j c) = (∑ x : Fin 128, max ((∑ z : Fin 3, p (ix3 b j z) * w1 (ix2 z x)) + b1 (ix1 x)) 0
      * w2 (ix2 x c)) + b2 (ix1 c) := by
  pointwise [feat]

/-- One of the exponentials. -/
theorem expo_at (v : FVec 𝕀 S4x2048x16 .f32) (b : Fin 4) (r : Fin 2048) (k : Fin 16) :
    expo v (ix3 b r k) = Ideal.exp (Ideal.div (v (ix3 b r k)) (Ideal.ofBits .f32 1008981770#32)
      - max (Ideal.ofBits .f32 4286578688#32) (Finset.univ.fold max (Ideal.ofBits .f32 4286578688#32)
          fun x : Fin 16 => Ideal.div (v (ix3 b r x)) (Ideal.ofBits .f32 1008981770#32))) := by
  pointwise [expo]

/-- One of the weights. -/
theorem wts_at (v : FVec 𝕀 S4x2048x16 .f32) (b : Fin 4) (r : Fin 2048) (k : Fin 16) :
    wts v (ix3 b r k) = Ideal.div (expo v (ix3 b r k)) (∑ x : Fin 16, expo v (ix3 b r x)) := by
  pointwise [wts]

/-- An index word that is a row number is kept as it is. -/
theorem words_at (v : IVec S4x2048x16 32) (b : Fin 4) (r : Fin 2048) (k : Fin 16) (n : Fin 8192)
    (hn : v (ix3 b r k) = BitVec.ofNat 32 n.val) : words v (ix4 b r k 0) = BitVec.ofNat 32 n.val := by
  pointwise [words]
  rw [hn]
  have : n.val < 8192 := n.isLt
  word_omega

/-- A gathered row: the features of the point the index word names, then the point's offset from the query. -/
theorem rows_at (h : FVec 𝕀 S4x8192x128 .f32) (q : FVec 𝕀 S4x2048x3 .f32) (p : FVec 𝕀 S4x8192x3 .f32)
    (w : IVec S4x2048x16x1 32) (b : Fin 4) (r : Fin 2048) (k : Fin 16) (c : Fin 131) (n : Fin 8192)
    (hn : w (ix4 b r k 0) = BitVec.ofNat 32 n.val) :
    rows h q p w (ix4 b r k c) = if hc : c.val < 128 then h (ix3 b n ⟨c.val, hc⟩)
      else p (ix3 b n ⟨c.val - 128, by omega⟩) - q (ix3 b r ⟨c.val - 128, by omega⟩) := by
  pointwise [rows, Value.fn_main_v54]
  split <;> simp only [gather_feat_at _ _ _ _ _ _ n hn, gather_point_at _ _ _ _ _ _ n hn]

/-- A weighted sum. -/
theorem agg_at (w : FVec 𝕀 S4x2048x16 .f32) (g : FVec 𝕀 S4x2048x16x131 .f32) (b : Fin 4) (r : Fin 2048) (c : Fin 131) :
    agg w g (ix3 b r c) = ∑ x : Fin 16, w (ix3 b r x) * g (ix4 b r x c) := by
  pointwise [agg]

/-- A value of the last two layers. -/
theorem tail_at (a : FVec 𝕀 S4x2048x131 .f32) (wv1 : FVec 𝕀 S131x128 .f32) (bv1 : FVec 𝕀 S128 .f32)
    (wv2 : FVec 𝕀 S128x3 .f32) (bv2 : FVec 𝕀 S3 .f32) (b : Fin 4) (r : Fin 2048) (c : Fin 3) :
    tail a wv1 bv1 wv2 bv2 (ix3 b r c) = (∑ x : Fin 128, max ((∑ z : Fin 131, a (ix3 b r z) * wv1 (ix2 z x)) + bv1 (ix1 x)) 0
      * wv2 (ix2 x c)) + bv2 (ix1 c) := by
  pointwise [tail]

/-- The order of the context points for a query, the nearest first. -/
abbrev near (q : FVec 𝕀 S4x2048x3 .f32) (p : FVec 𝕀 S4x8192x3 .f32) (b : Fin 4) (r : Fin 2048) : Fin 8192 → Fin 8192 :=
  Cert.Order.rank fun j => negd q p (ix3 b r j)

/-- The sixteen exponentials of a query. -/
def ex (q : FVec 𝕀 S4x2048x3 .f32) (p : FVec 𝕀 S4x8192x3 .f32) (b : Fin 4) (r : Fin 2048) (k : Fin 16) : EReal :=
  Ideal.exp (Ideal.div (negd q p (ix3 b r (near q p b r ⟨k.val, by omega⟩))) (Ideal.ofBits .f32 1008981770#32)
    - max (Ideal.ofBits .f32 4286578688#32) (Finset.univ.fold max (Ideal.ofBits .f32 4286578688#32)
        fun x : Fin 16 => Ideal.div (negd q p (ix3 b r (near q p b r ⟨x.val, by omega⟩))) (Ideal.ofBits .f32 1008981770#32)))

/-- What the reference aggregates in column `c`. -/
theorem agg_row (q : FVec 𝕀 S4x2048x3 .f32) (p : FVec 𝕀 S4x8192x3 .f32) (h : FVec 𝕀 S4x8192x128 .f32)
    (b : Fin 4) (r : Fin 2048) (c : Fin 131) :
    agg (wts (top (negd q p)).1) (rows h q p (words (top (negd q p)).2)) (ix3 b r c)
      = ∑ k : Fin 16, Ideal.div (ex q p b r k) (∑ x : Fin 16, ex q p b r x)
        * (if hc : c.val < 128 then h (ix3 b (near q p b r ⟨k.val, by omega⟩) ⟨c.val, hc⟩)
          else p (ix3 b (near q p b r ⟨k.val, by omega⟩) ⟨c.val - 128, by omega⟩) - q (ix3 b r ⟨c.val - 128, by omega⟩)) := by
  have hv : ∀ k : Fin 16, (top (negd q p)).1 (ix3 b r k) = negd q p (ix3 b r (near q p b r ⟨k.val, by omega⟩)) :=
    fun k => Cert.Order.topK_val 4 2048 16 (by omega) (negd q p) _ b r k
  have he : ∀ k : Fin 16, expo (top (negd q p)).1 (ix3 b r k) = ex q p b r k := fun k => by
    rw [expo_at]; simp only [hv]; rfl
  rw [agg_at]
  refine Finset.sum_congr rfl fun k _ => ?_
  rw [wts_at, rows_at _ _ _ _ b r k c _ (words_at (top (negd q p)).2 b r k _ (Cert.Order.topK_idx 4 2048 16 (by omega) (negd q p) _ b r k))]
  simp only [he]

end Cert.ReferenceIdeal.Parts
-- ==== Proof.Literals.lean ====
/- The values of the literals the two programs use. -/
module

public import Idealize.ShloMosaic.PureOps.Ideal
public import Idealize.ShloMosaic.PureOps.IdealRules

@[expose] public section

namespace Cert.Literals

open Idealize.ShloMosaic

theorem top_lit : Ideal.ofBits .f32 2139095040#32 = (⊤ : EReal) := by
  simp [Ideal.ofBits, Ideal.ieee]

theorem bot_lit : Ideal.ofBits .f32 4286578688#32 = (⊥ : EReal) := by
  simp [Ideal.ofBits, Ideal.ieee]

theorem two_lit : Ideal.ofBits .f32 1073741824#32 = ((2 : ℝ) : EReal) := by
  simp [Ideal.ofBits, Ideal.ieee, -EReal.coe_mul]; norm_num

theorem neg_two_lit : Ideal.ofBits .f32 3221225472#32 = ((-2 : ℝ) : EReal) := by
  simp [Ideal.ofBits, Ideal.ieee, -EReal.coe_mul]; norm_num

theorem quarter_lit : Ideal.ofBits .f32 1048576000#32 = ((1 / 4 : ℝ) : EReal) := by
  simp [Ideal.ofBits, Ideal.ieee, -EReal.coe_mul]; norm_num

/-- The temperature is a positive real. -/
theorem temp_lit : ∃ τ : ℝ, 0 < τ ∧ Ideal.ofBits .f32 1008981770#32 = (τ : EReal) := by
  refine ⟨10737418 * 2 ^ (-30 : ℤ), by positivity, ?_⟩
  simp [Ideal.ofBits, Ideal.ieee, -EReal.coe_mul]

end Cert.Literals
-- ==== Proof.Softmax.lean ====
/- Normalising weights before a sum or after it, over the extended reals. -/
module

public import Idealize.ShloMosaic.PureOps.Ideal
public import Idealize.ShloMosaic.PureOps.IdealRules
public import Mathlib.Algebra.BigOperators.Fin
public import Mathlib.Order.Fin.Basic

@[expose] public section

namespace Cert.Softmax

open Idealize.ShloMosaic Finset

/-- A sum of reals is a real. -/
theorem sum_coe {ι : Type} (s : Finset ι) (f : ι → ℝ) : ∑ i ∈ s, (f i : EReal) = ((∑ i ∈ s, f i : ℝ) : EReal) := by
  classical
  induction s using Finset.induction_on with
  | empty => simp
  | insert a s ha ih => rw [sum_insert ha, sum_insert ha, ih, EReal.coe_add]

/-- A nonnegative real factor goes into a sum of extended reals. -/
theorem sum_mul_real {ι : Type} (s : Finset ι) (f : ι → EReal) (a : ℝ) (ha : 0 ≤ a) :
    ∑ i ∈ s, f i * (a : EReal) = (∑ i ∈ s, f i) * (a : EReal) := by
  classical
  induction s using Finset.induction_on with
  | empty => simp
  | insert b s hb ih =>
    rw [sum_insert hb, sum_insert hb, ih]
    exact (EReal.right_distrib_of_nonneg_of_ne_top (by exact_mod_cast ha) (EReal.coe_ne_top a) _ _).symm

variable (e : Fin 16 → ℝ) (he : ∀ k, 0 < e k)
include he

theorem sum_ne : (∑ k, e k) ≠ 0 := (Finset.sum_pos (fun k _ => he k) univ_nonempty).ne'

/-- Dividing the weights by their sum is dividing the weighted sum. -/
theorem norm_sum (h : Fin 16 → EReal) :
    ∑ k, Ideal.div (e k : EReal) (∑ x, (e x : EReal)) * h k = Ideal.div (∑ k, (e k : EReal) * h k) (∑ x, (e x : EReal)) := by
  rw [sum_coe, Ideal.div_coe (sum_ne e he), ← sum_mul_real _ _ _ (by
    have := Finset.sum_nonneg (s := univ) (f := e) fun k _ => (he k).le
    positivity)]
  refine sum_congr rfl fun k _ => ?_
  rw [Ideal.div_coe (sum_ne e he), mul_right_comm]

/-- The same of differences from a fixed real: the fixed real comes off the normalised sum. -/
theorem norm_sub (p : Fin 16 → ℝ) (c : ℝ) :
    ∑ k, Ideal.div (e k : EReal) (∑ x, (e x : EReal)) * ((p k : EReal) - (c : EReal))
      = Ideal.div (∑ k, (e k : EReal) * (p k : EReal)) (∑ x, (e x : EReal)) - (c : EReal) := by
  have hN := sum_ne e he
  rw [sum_coe]
  simp only [Ideal.div_coe hN, ← EReal.coe_mul, ← EReal.coe_sub, sum_coe]
  refine congrArg _ ?_
  have : ∀ k, e k * (1 / ∑ x, e x) * (p k - c) = (1 / ∑ x, e x) * (e k * p k) - (1 / ∑ x, e x) * c * e k := fun k => by ring
  simp only [this, sum_sub_distrib, ← mul_sum]
  field_simp

end Cert.Softmax
-- ==== Proof.Distances.lean ====
/- The two programs' distances over the reals, and why the queries are finite. -/
module

public import proofs.«01_k».proof.Proof.Literals
public import proofs.«01_k».proof.Proof.Softmax

@[expose] public section

namespace Cert.Distances

open Idealize.ShloMosaic Finset

/-- The reference's negated squared distance. -/
noncomputable def neg (q p : Fin 3 → EReal) : EReal :=
  -((∑ x, q x * q x + ∑ x, p x * p x) - Ideal.ofBits .f32 1073741824#32 * ∑ x, q x * p x)

/-- The kernel's distance: the query's square left out. -/
noncomputable def part (q p : Fin 3 → EReal) : EReal :=
  Ideal.ofBits .f32 1048576000#32 * ∑ x, (Ideal.ofBits .f32 3221225472#32 * p x) * (Ideal.ofBits .f32 3221225472#32 * p x)
    + ∑ x, q x * (Ideal.ofBits .f32 3221225472#32 * p x)

/-- The kernel's distance of real points. -/
def rpart (a t : Fin 3 → ℝ) : ℝ := ∑ x, t x * t x - 2 * ∑ x, a x * t x

theorem part_eq (a t : Fin 3 → ℝ) : part (fun x => (a x : EReal)) (fun x => (t x : EReal)) = (rpart a t : EReal) := by
  unfold part rpart
  simp only [Cert.Literals.quarter_lit, Cert.Literals.neg_two_lit, ← EReal.coe_mul, Cert.Softmax.sum_coe, ← EReal.coe_add]
  refine congrArg _ ?_
  simp only [Fin.sum_univ_three]
  ring

theorem neg_eq (a t : Fin 3 → ℝ) : neg (fun x => (a x : EReal)) (fun x => (t x : EReal))
    = ((-(∑ x, a x * a x) - rpart a t : ℝ) : EReal) := by
  unfold neg rpart
  simp only [Cert.Literals.two_lit, ← EReal.coe_mul, Cert.Softmax.sum_coe, ← EReal.coe_add, ← EReal.coe_sub, ← EReal.coe_neg]
  refine congrArg _ ?_
  ring

/-- A square is not the least value. -/
theorem sq_ne_bot (x : EReal) : x * x ≠ ⊥ := by
  induction x using EReal.rec with
  | bot => simp [EReal.bot_mul_bot]
  | top => simp [EReal.top_mul_top]
  | coe r => rw [← EReal.coe_mul]; exact EReal.coe_ne_bot _

theorem sq_top {x : EReal} (h : x = ⊤ ∨ x = ⊥) : x * x = ⊤ := by
  rcases h with rfl | rfl
  · exact EReal.top_mul_top
  · exact EReal.bot_mul_bot

theorem add_ne_bot {a b : EReal} (ha : a ≠ ⊥) (hb : b ≠ ⊥) : a + b ≠ ⊥ := by
  simp [EReal.add_eq_bot_iff, ha, hb]

theorem add_top {a b : EReal} (ha : a ≠ ⊥) (hb : b ≠ ⊥) (h : a = ⊤ ∨ b = ⊤) : a + b = ⊤ := by
  rcases h with rfl | rfl
  · exact EReal.top_add_of_ne_bot hb
  · exact EReal.add_top_of_ne_bot ha

/-- A query with an infinite coordinate has only infinite distances to real points. -/
theorem neg_infinite (q : Fin 3 → EReal) (t : Fin 3 → ℝ) (x : Fin 3) (hx : q x = ⊤ ∨ q x = ⊥) :
    neg q (fun x => (t x : EReal)) = ⊤ ∨ neg q (fun x => (t x : EReal)) = ⊥ := by
  have hq : ∑ x, q x * q x = ⊤ := by
    rw [Fin.sum_univ_three]
    have n := fun x => sq_ne_bot (q x)
    have : q 0 * q 0 = ⊤ ∨ q 1 * q 1 = ⊤ ∨ q 2 * q 2 = ⊤ := by
      match x with
      | ⟨0, _⟩ => exact Or.inl (sq_top hx)
      | ⟨1, _⟩ => exact Or.inr (Or.inl (sq_top hx))
      | ⟨2, _⟩ => exact Or.inr (Or.inr (sq_top hx))
    rcases this with h | h | h
    · exact add_top (add_ne_bot (n 0) (n 1)) (n 2) (Or.inl (add_top (n 0) (n 1) (Or.inl h)))
    · exact add_top (add_ne_bot (n 0) (n 1)) (n 2) (Or.inl (add_top (n 0) (n 1) (Or.inr h)))
    · exact add_top (add_ne_bot (n 0) (n 1)) (n 2) (Or.inr h)
  unfold neg
  rw [hq]
  simp only [← EReal.coe_mul, Cert.Softmax.sum_coe, EReal.top_add_coe]
  generalize Ideal.ofBits .f32 1073741824#32 * _ = z
  induction z using EReal.rec with
  | bot => right; simp
  | top => left; simp
  | coe r => right; simp

end Cert.Distances
-- ==== Proof.Row.lean ====
/- One query of the kernel beside the same query of the reference: the same sixteen points, the same weights. -/
module

public import proofs.«01_k».proof.Proof.Candidates
public import proofs.«01_k».proof.Proof.KernelTable
public import proofs.«01_k».proof.Proof.ReferenceAt
public import proofs.«01_k».proof.Proof.Distances

@[expose] public section

set_option maxRecDepth 16384

noncomputable section

namespace Cert.Row

open Idealize.ShloMosaic Cert.KernelIdeal.Block Cert.ReferenceIdeal.Parts

local notation "𝕀" => Idealize.ShloMosaic.Ideal

variable {P : Vec 𝕀 Cert.KernelIdeal.S1x3x8192 .f32} {qb : Vec 𝕀 Cert.KernelIdeal.S1x1024x3 .f32} {r : Fin 1024}
variable {Q : FVec 𝕀 Cert.ReferenceIdeal.S4x2048x3 .f32} {X : FVec 𝕀 Cert.ReferenceIdeal.S4x8192x3 .f32} {b : Fin 4} {s : Fin 2048}
variable {a : Fin 3 → ℝ} {t : Fin 8192 → Fin 3 → ℝ}

/-- A row of the kernel's blocks and a row of the whole arrays hold the same real query and context, and the precondition
    holds of that row. -/
structure Agree (P : Vec 𝕀 Cert.KernelIdeal.S1x3x8192 .f32) (qb : Vec 𝕀 Cert.KernelIdeal.S1x1024x3 .f32) (r : Fin 1024)
    (Q : FVec 𝕀 Cert.ReferenceIdeal.S4x2048x3 .f32) (X : FVec 𝕀 Cert.ReferenceIdeal.S4x8192x3 .f32) (b : Fin 4) (s : Fin 2048)
    (a : Fin 3 → ℝ) (t : Fin 8192 → Fin 3 → ℝ) : Prop where
  query : ∀ x, Q (ix3 b s x) = (a x : EReal)
  point : ∀ j x, X (ix3 b j x) = (t j x : EReal)
  block : ∀ x, qb (ix3 0 r x) = (a x : EReal)
  scaled : ∀ j x, P (ix3 0 x j) = Ideal.ofBits .f32 3221225472#32 * (t j x : EReal)
  strict : ∀ k : Fin 16, negd Q X (ix3 b s (near Q X b s ⟨k.val + 1, by omega⟩))
    < negd Q X (ix3 b s (near Q X b s ⟨k.val, by omega⟩))
  lanes : ∀ k : Fin 16, (Finset.univ.filter fun k' : Fin 16 => (near Q X b s ⟨k'.val, by omega⟩).val % 128
    = (near Q X b s ⟨k.val, by omega⟩).val % 128).card ≤ 3

/-- The kernel's distances are real. -/
theorem dist_eq (A : Agree P qb r Q X b s a t) (j : Fin 8192) :
    dist P qb r j = (Cert.Distances.rpart a (t j) : EReal) := by
  rw [← Cert.Distances.part_eq]
  unfold Cert.KernelIdeal.Block.dist Cert.Distances.part
  rw [pay7_at]
  simp only [A.scaled, A.block]

/-- The reference's negated distances: the kernel's, negated and shifted. -/
theorem negd_eq (A : Agree P qb r Q X b s a t) (j : Fin 8192) :
    negd Q X (ix3 b s j) = ((-(∑ x, a x * a x) - Cert.Distances.rpart a (t j) : ℝ) : EReal) := by
  rw [← Cert.Distances.neg_eq]
  unfold Cert.Distances.neg
  rw [negd_at]
  simp only [A.query, A.point]

/-- The reference's order sorts the kernel's distances. -/
theorem sorted (A : Agree P qb r Q X b s a t) :
    Cert.Rounds.Sorted (dist P qb r) fun k : Fin 17 => near Q X b s ⟨k.val, by omega⟩ := by
  refine Cert.Order.sorted_of_rank (fun j => negd Q X (ix3 b s j)) (dist P qb r) (fun i j => ?_) A.strict
  simp only [dist_eq A, negd_eq A, EReal.coe_le_coe_iff]
  exact ⟨fun h => by linarith, fun h => by linarith⟩

/-- The kernel's thresholds are the nearest distances in order. -/
theorem thresholds (A : Agree P qb r Q X b s a t) (k : Fin 16) :
    Cert.Rounds.iter (fun e : Fin 384 => cand P qb (ix2 r e)) ⊥ (k.val + 1)
      = dist P qb r (near Q X b s ⟨k.val, by omega⟩) := by
  have hs := sorted A
  have hA := cand_mem P qb r hs (fun j => by rw [dist_eq A]; exact EReal.coe_lt_top _) A.lanes
  have hb : ∀ j, ⊥ < dist P qb r j := fun j => by rw [dist_eq A]; exact EReal.bot_lt_coe _
  exact Cert.Rounds.iter_eq hs hb hA (cand_from P qb r) k

/-- The weight of the `k`-th nearest point, before it is normalised. -/
def weight (Q : FVec 𝕀 Cert.ReferenceIdeal.S4x2048x3 .f32) (X : FVec 𝕀 Cert.ReferenceIdeal.S4x8192x3 .f32) (b : Fin 4) (s : Fin 2048)
    (a : Fin 3 → ℝ) (t : Fin 8192 → Fin 3 → ℝ) (τ : ℝ) (k : Fin 16) : ℝ :=
  Real.exp ((Cert.Distances.rpart a (t (near Q X b s ⟨0, by omega⟩)) - Cert.Distances.rpart a (t (near Q X b s ⟨k.val, by omega⟩))) * (1 / τ))

/-- A weight is positive. -/
theorem weight_pos (τ : ℝ) (k : Fin 16) : 0 < weight Q X b s a t τ k := Real.exp_pos _

/-- The kernel's weighted sum runs over the sixteen nearest points. -/
theorem wsum_eq (A : Agree P qb r Q X b s a t) {τ : ℝ} (hτ : 0 < τ) (hT : Ideal.ofBits .f32 1008981770#32 = (τ : EReal))
    (H : Vec 𝕀 Cert.KernelIdeal.S8192x132 .f32) (c : Fin 132) :
    wsum P qb H r c = ∑ k : Fin 16, (weight Q X b s a t τ k : EReal) * H (ix2 (near Q X b s ⟨k.val, by omega⟩) c) := by
  unfold wsum
  have h16 := thresholds A 15
  have h1 := thresholds A 0
  have h16' : Cert.Rounds.iter (fun e : Fin 384 => cand P qb (ix2 r e)) ⊥ 16 = dist P qb r (near Q X b s ⟨15, by omega⟩) := h16
  have h1' : Cert.Rounds.iter (fun e : Fin 384 => cand P qb (ix2 r e)) ⊥ 1 = dist P qb r (near Q X b s ⟨0, by omega⟩) := h1
  rw [h16', h1']
  refine (Cert.Rounds.sum_mask (sorted A) (fun j => Ideal.exp ((dist P qb r (near Q X b s ⟨0, by omega⟩) - dist P qb r j)
    * Ideal.div 1 (Ideal.ofBits .f32 1008981770#32))) (fun j => H (ix2 j c))).trans ?_
  refine Finset.sum_congr rfl fun k _ => congrArg (· * H (ix2 (near Q X b s ⟨k.val, by omega⟩) c)) ?_
  show Ideal.exp ((dist P qb r (near Q X b s ⟨0, by omega⟩) - dist P qb r (near Q X b s ⟨k.val, by omega⟩))
    * Ideal.div 1 (Ideal.ofBits .f32 1008981770#32)) = _
  rw [hT, Ideal.div_coe hτ.ne', one_mul, dist_eq A, dist_eq A, ← EReal.coe_sub, ← EReal.coe_mul, Ideal.exp_coe]
  rfl

/-- The reference's exponentials are the same weights. -/
theorem ex_eq (A : Agree P qb r Q X b s a t) {τ : ℝ} (hτ : 0 < τ) (hT : Ideal.ofBits .f32 1008981770#32 = (τ : EReal))
    (k : Fin 16) : ex Q X b s k = (weight Q X b s a t τ k : EReal) := by
  have hd : ∀ x : Fin 16, Ideal.div (negd Q X (ix3 b s (near Q X b s ⟨x.val, by omega⟩))) (Ideal.ofBits .f32 1008981770#32)
      = (((-(∑ x, a x * a x) - Cert.Distances.rpart a (t (near Q X b s ⟨x.val, by omega⟩))) * (1 / τ) : ℝ) : EReal) := fun x => by
    rw [hT, Ideal.div_coe hτ.ne', negd_eq A, ← EReal.coe_mul]
  have hmax : Finset.univ.fold max (⊥ : EReal) (fun x : Fin 16 =>
      (((-(∑ x, a x * a x) - Cert.Distances.rpart a (t (near Q X b s ⟨x.val, by omega⟩))) * (1 / τ) : ℝ) : EReal))
      = (((-(∑ x, a x * a x) - Cert.Distances.rpart a (t (near Q X b s ⟨0, by omega⟩))) * (1 / τ) : ℝ) : EReal) := by
    apply le_antisymm
    · refine (Finset.fold_max_le _).mpr ⟨bot_le, fun x _ => ?_⟩
      have h : negd Q X (ix3 b s (near Q X b s ⟨x.val, by omega⟩)) ≤ negd Q X (ix3 b s (near Q X b s ⟨0, by omega⟩)) :=
        Cert.Order.rank_antitone (fun j => negd Q X (ix3 b s j)) (Fin.mk_le_mk.mpr (Nat.zero_le _))
      rw [negd_eq A, negd_eq A, EReal.coe_le_coe_iff] at h
      rw [EReal.coe_le_coe_iff]
      exact mul_le_mul_of_nonneg_right h (by positivity)
    · exact (Finset.le_fold_max _).mpr (Or.inr ⟨⟨0, by omega⟩, Finset.mem_univ _, le_of_eq rfl⟩)
  unfold ex
  simp only [hd, Cert.Literals.bot_lit, hmax]
  rw [max_eq_right bot_le, ← EReal.coe_sub, Ideal.exp_coe]
  unfold weight
  refine congrArg (fun z : ℝ => ((Real.exp z : ℝ) : EReal)) ?_
  ring

/-- A feature column of the two programs. -/
theorem feature_eq (A : Agree P qb r Q X b s a t) (H : Vec 𝕀 Cert.KernelIdeal.S8192x132 .f32)
    (h : FVec 𝕀 Cert.ReferenceIdeal.S4x8192x128 .f32)
    (hH : ∀ j (c : Fin 128), H (ix2 j ⟨c.val, by omega⟩) = h (ix3 b j c)) (h1 : ∀ j, H (ix2 j 131) = 1) (c : Fin 128) :
    Ideal.div (wsum P qb H r ⟨c.val, by omega⟩) (wsum P qb H r 131)
      = agg (wts (top (negd Q X)).1) (rows h Q X (words (top (negd Q X)).2)) (ix3 b s ⟨c.val, by omega⟩) := by
  obtain ⟨τ, hτ, hT⟩ := Cert.Literals.temp_lit
  rw [agg_row, wsum_eq A hτ hT, wsum_eq A hτ hT]
  simp only [h1, mul_one, ex_eq A hτ hT, hH, c.isLt, dif_pos]
  exact (Cert.Softmax.norm_sum _ (fun k => weight_pos τ k) fun k => h (ix3 b (near Q X b s ⟨k.val, by omega⟩) c)).symm

/-- An offset column of the two programs. -/
theorem offset_eq (A : Agree P qb r Q X b s a t) (H : Vec 𝕀 Cert.KernelIdeal.S8192x132 .f32)
    (h : FVec 𝕀 Cert.ReferenceIdeal.S4x8192x128 .f32)
    (hH : ∀ j (c : Fin 3), H (ix2 j ⟨128 + c.val, by omega⟩) = X (ix3 b j c)) (h1 : ∀ j, H (ix2 j 131) = 1) (c : Fin 3) :
    Ideal.div (wsum P qb H r ⟨128 + c.val, by omega⟩) (wsum P qb H r 131) - qb (ix3 0 r c)
      = agg (wts (top (negd Q X)).1) (rows h Q X (words (top (negd Q X)).2)) (ix3 b s ⟨128 + c.val, by omega⟩) := by
  obtain ⟨τ, hτ, hT⟩ := Cert.Literals.temp_lit
  have hc : ¬ (128 + c.val < 128) := by omega
  have ec : (⟨128 + c.val - 128, by omega⟩ : Fin 3) = c := Fin.ext (Nat.add_sub_cancel_left 128 c.val)
  rw [agg_row, wsum_eq A hτ hT, wsum_eq A hτ hT]
  simp only [h1, mul_one, ex_eq A hτ hT, hH, hc, dif_neg, not_false_eq_true, ec, A.point, A.query, A.block]
  exact (Cert.Softmax.norm_sub _ (fun k => weight_pos τ k) (fun k => t (near Q X b s ⟨k.val, by omega⟩) c) (a c)).symm

end Cert.Row
-- ==== Proof.KernelReads.lean ====
/- What the kernel's input blocks hold at each grid point, in terms of the argument arrays. -/
module

public import proofs.«01_k».proof.Proof.KernelBlock
public import Idealize.ShloMosaic.Lib.Pointwise
import all proofs.«01_k».proof.Proof.Gen.KernelIdeal.Frame
public import Idealize.ShloMosaic.Lib.Pipeline.ValueKit

@[expose] public section

set_option maxRecDepth 16384

noncomputable section

namespace Cert.KernelIdeal.Reads

open Idealize.ShloMosaic Idealize.ShloMosaic.TcCoe Cert.KernelIdeal Cert.KernelIdeal.Gen Idealize.SL.Sem

local notation "𝕀" => Idealize.ShloMosaic.Ideal

variable (m : (ℓ : Loc nD τ sig) → Buf (Elt 𝕀) ℓ) (c : Dev nD) (t : Fin cfg0.N)

theorem lt8 : t.val < 8 := t.isLt

theorem idx0 : ∀ t : Fin cfg0.N, (cfg0.win 0).index t = ![t.val / 2, t.val % 2, 0] := by decide +kernel
theorem idx1 : ∀ t : Fin cfg0.N, (cfg0.win 1).index t = ![t.val / 2, 0, 0] := by decide +kernel
theorem idx2 : ∀ t : Fin cfg0.N, (cfg0.win 2).index t = ![t.val / 2, 0, 0] := by decide +kernel
theorem idx3 : ∀ t : Fin cfg0.N, (cfg0.win 3).index t = ![0, 0] := by decide +kernel
theorem idx4 : ∀ t : Fin cfg0.N, (cfg0.win 4).index t = ![0, 0] := by decide +kernel
theorem idx5 : ∀ t : Fin cfg0.N, (cfg0.win 5).index t = ![0, 0] := by decide +kernel
theorem idx6 : ∀ t : Fin cfg0.N, (cfg0.win 6).index t = ![0, 0] := by decide +kernel
theorem idx7 : ∀ t : Fin cfg0.N, (cfg0.win 7).index t = ![0, 0] := by decide +kernel
theorem idx8 : ∀ t : Fin cfg0.N, (cfg0.win 8).index t = ![0, 0] := by decide +kernel
theorem idx9 : ∀ t : Fin cfg0.N, (cfg0.win 9).index t = ![0, 0] := by decide +kernel
theorem idx10 : ∀ t : Fin cfg0.N, (cfg0.win 10).index t = ![0, 0] := by decide +kernel
theorem idx11 : ∀ t : Fin cfg0.N, (cfg0.win 11).index t = ![t.val / 2, t.val % 2, 0] := by decide +kernel

/-- The batch of a grid point. -/
def bat : Fin 4 := ⟨t.val / 2, by have := lt8 t; omega⟩

/-- The query row of a grid point's row. -/
def row (r : Fin 1024) : Fin 2048 := ⟨1024 * (t.val % 2) + r.val, by have := r.isLt; omega⟩

/-- The query block. -/
theorem q_at (r : Fin 1024) (x : Fin 3) : iblk m c 0 t (ix3 0 r x)
    = m ((c : Thread nD τ).loc main_arg0) (ix3 (bat t) (row t r) x) := by
  blk_ext [iblk, V_main_arg0, idx0 t, bat, row]

/-- The context block. -/
theorem ctx_at (j : Fin 8192) (x : Fin 3) : iblk m c 1 t (ix3 0 j x)
    = m ((c : Thread nD τ).loc main_arg1) (ix3 (bat t) j x) := by
  blk_ext [iblk, V_main_arg1, idx1 t, bat]

/-- The transposed context block: minus twice the context. -/
theorem pct_at (j : Fin 8192) (x : Fin 3) : iblk m c 2 t (ix3 0 x j)
    = Ideal.ofBits .f32 3221225472#32 * m ((c : Thread nD τ).loc main_arg1) (ix3 (bat t) j x) := by
  blk_simp [iblk]
  entry_read
  simp only [StableHlo.TRef.toBuf, StableHlo.TRef.ofBuf, StableHlo.TRef.of, cast_eq, eq_mpr_eq_cast]
  pointwise
  refine congrArg (Ideal.ofBits .f32 3221225472#32 * ·) ?_
  blk_ext [idx2 t, bat]

/-- The first layer's weights. -/
theorem w1_at (z : Fin 3) (x : Fin 128) : iblk m c 3 t (ix2 z x) = m ((c : Thread nD τ).loc main_arg2) (ix2 z x) := by
  blk_ext [iblk, V_main_arg2, idx3 t]

/-- The first layer's bias. -/
theorem b1_at (x : Fin 128) : iblk m c 4 t (ix2 0 x) = m ((c : Thread nD τ).loc main_arg3) (ix1 x) := by
  blk_simp [iblk]
  entry_read
  simp only [StableHlo.TRef.toBuf, StableHlo.TRef.ofBuf, StableHlo.TRef.of, cast_eq, eq_mpr_eq_cast]
  pointwise
  blk_ext [idx4 t]

/-- The second layer's weights. -/
theorem w2_at (z : Fin 128) (x : Fin 128) : iblk m c 5 t (ix2 z x) = m ((c : Thread nD τ).loc main_arg4) (ix2 z x) := by
  blk_ext [iblk, V_main_arg4, idx5 t]

/-- The second layer's bias. -/
theorem b2_at (x : Fin 128) : iblk m c 6 t (ix2 0 x) = m ((c : Thread nD τ).loc main_arg5) (ix1 x) := by
  blk_simp [iblk]
  entry_read
  simp only [StableHlo.TRef.toBuf, StableHlo.TRef.ofBuf, StableHlo.TRef.of, cast_eq, eq_mpr_eq_cast]
  pointwise
  blk_ext [idx6 t]

/-- The third layer's weights. -/
theorem wv1_at (z : Fin 131) (x : Fin 128) : iblk m c 7 t (ix2 z x) = m ((c : Thread nD τ).loc main_arg6) (ix2 z x) := by
  blk_ext [iblk, V_main_arg6, idx7 t]

/-- The third layer's bias. -/
theorem bv1_at (x : Fin 128) : iblk m c 8 t (ix2 0 x) = m ((c : Thread nD τ).loc main_arg7) (ix1 x) := by
  blk_simp [iblk]
  entry_read
  simp only [StableHlo.TRef.toBuf, StableHlo.TRef.ofBuf, StableHlo.TRef.of, cast_eq, eq_mpr_eq_cast]
  pointwise
  blk_ext [idx8 t]

/-- The last layer's weights. -/
theorem wv2_at (z : Fin 128) (x : Fin 3) : iblk m c 9 t (ix2 z x) = m ((c : Thread nD τ).loc main_arg8) (ix2 z x) := by
  blk_ext [iblk, V_main_arg8, idx9 t]

/-- The last layer's bias. -/
theorem bv2_at (x : Fin 3) : iblk m c 10 t (ix2 0 x) = m ((c : Thread nD τ).loc main_arg9) (ix1 x) := by
  blk_simp [iblk]
  entry_read
  simp only [StableHlo.TRef.toBuf, StableHlo.TRef.ofBuf, StableHlo.TRef.of, cast_eq, eq_mpr_eq_cast]
  pointwise
  blk_ext [idx10 t]

/-- The output array is `G` when every block is the block of `G` at its place. -/
theorem out_of_blocks (G : FVec 𝕀 S4x2048x3 .f32)
    (h : ∀ (t : Fin cfg0.N) (r : Fin 1024) (x : Fin 3), (outsAt0 (F := 𝕀) m c t.val t.isLt).1 (ix3 0 r x)
      = G (ix3 (bat t) (row t r) x)) : (dats m 0 c).arrAt 11 cfg0.N = G := by
  refine (dats m 0 c).arrAt_eq_of_covers 11 _ (by decide +kernel) fun t hf y => ?_
  blk_simp
  rw [after0_11]
  have key : ∀ y : S1x1024x3.Idx, y = ix3 0 (y 1) (y 2) := fun y =>
    (eq_ix3 y).trans (congrArg (fun a : Fin 1 => (ix3 a (y 1) (y 2) : S1x1024x3.Idx))
      (Subsingleton.elim (α := Fin 1) (y 0) 0))
  refine (congrArg (outsAt0 (F := 𝕀) m c t.val t.isLt).1 (key y)).trans ((h t (y 1) (y 2)).trans (congrArg G ?_))
  blk_ext [idx11 t, bat, row]

end Cert.KernelIdeal.Reads
-- ==== Proof.Precondition.lean ====
/- What the precondition says, decoded. -/
module

public import proofs.«01_k».proof.Proof.Gen.Pre_separated
public import proofs.«01_k».proof.Proof.Order
public import proofs.«01_k».proof.Proof.Distances
public import Idealize.ShloMosaic.Lib.IndicatorCount
public import proofs.«01_k».proof.Proof.Literals

@[expose] public section

set_option maxRecDepth 16384

noncomputable section

namespace Cert.Pre_separated.Decode

open Idealize.ShloMosaic Cert.Pre_separated Cert.Pre_separated.Gen

local notation "𝕀" => Idealize.ShloMosaic.Ideal

variable (q : FVec 𝕀 S4x2048x3 .f32) (p : FVec 𝕀 S4x8192x3 .f32)

/-- The negated squared distances the precondition ranks. -/
def negd : FVec 𝕀 S4x2048x8192 .f32 :=
  Host.negf (subf (addf
    (broadcastInDim S4x2048x8192 ![0, 1, 2] bcast_S4x2048x1_S4x2048x8192_0_1_2
      (broadcastInDim S4x2048x1 ![0, 1] bcast_S4x2048_S4x2048x1_0_1
        (Host.reduceAdd (mulf q q) (constant S_ .f32 0x00000000#32) reducesTo_S4x2048x3_S4x2048_d2 h_S_)))
    (broadcastInDim S4x2048x8192 ![0, 1, 2] bcast_S4x1x8192_S4x2048x8192_0_1_2
      (broadcastInDim S4x1x8192 ![0, 2] bcast_S4x8192_S4x1x8192_0_2
        (Host.reduceAdd (mulf p p) (constant S_ .f32 0x00000000#32) reducesTo_S4x8192x3_S4x8192_d2 h_S_))))
    (mulf (broadcastInDim S4x2048x8192 ![] bcast_S_S4x2048x8192 (constant S_ .f32 0x40000000#32))
      (Host.dotGeneral dot_S4x2048x3_S4x8192x3_S4x2048x8192_2_2_1_1_0_0 none q p)))

/-- One of them. -/
theorem negd_at (b : Fin 4) (r : Fin 2048) (j : Fin 8192) : negd q p (ix3 b r j)
    = Cert.Distances.neg (fun x => q (ix3 b r x)) (fun x => p (ix3 b j x)) := by
  unfold Cert.Distances.neg
  pointwise [negd]

/-- The seventeen greatest and their indices. -/
def top : FVec 𝕀 S4x2048x17 .f32 × IVec S4x2048x17 32 :=
  Host.topK S4x2048x17 2 (FloatOps.cmpfTotal .gt) (negd q p) sliceFits_S4x2048x8192_S4x2048x17

/-- The distances of a query are ranked by its row of negated distances. -/
abbrev near (b : Fin 4) (r : Fin 2048) : Fin 8192 → Fin 8192 :=
  Cert.Order.rank fun j => negd q p (ix3 b r j)

/-- A truth word that is one comes from a true proposition. -/
theorem of_word {a : Prop} [Decidable a] (h : BitVec.ofBool (decide a) = 1#1) : a := by
  by_contra hn
  simp [hn] at h

/-- The first component says every context coordinate is a real number. -/
theorem finite_of {b : Fin 4} {j : Fin 8192} {x : Fin 3}
    (h : cmpf .olt (Host.absf p) (broadcastInDim S4x8192x3 ![] bcast_S_S4x8192x3
      (constant S_ .f32 0x7F800000#32)) (ix3 b j x) = 1#1) : ∃ a : ℝ, p (ix3 b j x) = (a : EReal) := by
  pointwise [] at h
  have h' := of_word h
  rw [Cert.Literals.top_lit] at h'
  revert h'
  generalize p (ix3 b j x) = a
  intro h'
  induction a using EReal.rec with
  | coe a => exact ⟨a, rfl⟩
  | bot => exact absurd h' (by  simp [FloatOps.absf])
  | top => exact absurd h' (by simp [FloatOps.absf])

/-- The second component says the seventeen greatest decrease strictly. -/
theorem strict_of {u : IVec S4x8192x3 1} {b : Fin 4} {r : Fin 2048} {k : Fin 16}
    (h : (fn_part1 (F := 𝕀) u (top q p).1 (top q p).2 (extractStridedSlice S4x2048x16 ![0, 0, 0] (top q p).1
      slices_S4x2048x17_S4x2048x16_0_0_0)).2.1 (ix3 b r k) = 1#1) :
    negd q p (ix3 b r (near q p b r ⟨k.val + 1, by omega⟩)) < negd q p (ix3 b r (near q p b r ⟨k.val, by omega⟩)) := by
  unfold fn_part1 at h
  dsimp only at h
  pointwise [] at h
  have h' := of_word h
  have e1 := Cert.Order.topK_val 4 2048 17 (by omega) (negd q p) sliceFits_S4x2048x8192_S4x2048x17 b r ⟨1 + k.val, by omega⟩
  have e2 := Cert.Order.topK_val 4 2048 17 (by omega) (negd q p) sliceFits_S4x2048x8192_S4x2048x17 b r ⟨k.val, by omega⟩
  have h2 := lt_of_eq_of_lt e1.symm (lt_of_lt_of_eq h' e2)
  have e : (⟨1 + k.val, by omega⟩ : Fin 8192) = ⟨k.val + 1, by omega⟩ := Fin.ext (Nat.add_comm _ _)
  rw [← e]
  exact h2

/-- Two indices agree in their low seven bits when they agree modulo 128. -/
theorem low_eq (a c : Fin 8192) :
    IntOp.andi (BitVec.ofNat 32 a.val) 127#32 = IntOp.andi (BitVec.ofNat 32 c.val) 127#32
      ↔ c.val % 128 = a.val % 128 := by
  have key : ∀ d : Fin 8192, (IntOp.andi (BitVec.ofNat 32 d.val) 127#32).toNat = d.val % 128 := by
    intro d
    have hd := d.isLt
    show (BitVec.ofNat 32 d.val &&& 127#32).toNat = _
    rw [BitVec.toNat_and, BitVec.toNat_ofNat, Nat.mod_eq_of_lt (by omega)]
    exact Nat.and_two_pow_sub_one_eq_mod d.val 7
  rw [← BitVec.toNat_inj, key, key]
  exact eq_comm

/-- The third component says that no more than three of the sixteen nearest share a lane. -/
theorem lanes_of {u : IVec S4x8192x3 1} {b : Fin 4} {r : Fin 2048} {k : Fin 16}
    (h : (fn_part1 (F := 𝕀) u (top q p).1 (top q p).2 (extractStridedSlice S4x2048x16 ![0, 0, 0] (top q p).1
      slices_S4x2048x17_S4x2048x16_0_0_0)).2.2 (ix3 b r k) = 1#1) :
    (Finset.univ.filter fun k' : Fin 16 => (near q p b r ⟨k'.val, by omega⟩).val % 128
      = (near q p b r ⟨k.val, by omega⟩).val % 128).card ≤ 3 := by
  unfold fn_part1 at h
  dsimp only at h
  pointwise [] at h
  rw [IndicatorCount.fold_addi_setWidth_eq_card] at h
  have e : ∀ x : Fin 16, (top q p).2 (ix3 b r ⟨x.val, by omega⟩) = BitVec.ofNat 32 (near q p b r ⟨x.val, by omega⟩).val :=
    fun x => Cert.Order.topK_idx 4 2048 17 (by omega) (negd q p) sliceFits_S4x2048x8192_S4x2048x17 b r ⟨x.val, by omega⟩
  have hf : (Finset.univ.filter fun x : Fin 16 => IntOp.cmpi CmpIPredicate.eq
        (IntOp.andi ((top q p).2 (ix3 b r ⟨k.val, by omega⟩)) 127#32)
        (IntOp.andi ((top q p).2 (ix3 b r ⟨x.val, by omega⟩)) 127#32) = 1#1)
      = Finset.univ.filter fun k' : Fin 16 => (near q p b r ⟨k'.val, by omega⟩).val % 128
        = (near q p b r ⟨k.val, by omega⟩).val % 128 := by
    refine Finset.filter_congr fun x _ => ?_
    rw [e, e, ← low_eq]
    simp only [IntOp.cmpi]
    constructor
    · intro hb
      by_contra hn
      rw [beq_false_of_ne hn] at hb
      exact absurd hb (by decide)
    · intro hb
      rw [hb, beq_self_eq_true]
      rfl
  rw [hf] at h
  have hc := Finset.card_le_univ (Finset.univ.filter fun k' : Fin 16 => (near q p b r ⟨k'.val, by omega⟩).val % 128
        = (near q p b r ⟨k.val, by omega⟩).val % 128)
  rw [Fintype.card_fin] at hc
  revert h hc
  generalize Finset.card _ = n
  intro h hc
  interval_cases n <;> first | omega | (revert h; decide)

variable (a2 : FVec 𝕀 S3x128 .f32) (a3 : FVec 𝕀 S128 .f32) (a4 : FVec 𝕀 S128x128 .f32) (a5 : FVec 𝕀 S128 .f32)
variable (a6 : FVec 𝕀 S131x128 .f32) (a7 : FVec 𝕀 S128 .f32) (a8 : FVec 𝕀 S128x3 .f32) (a9 : FVec 𝕀 S3 .f32)

/-- The precondition's function, with its chain of distances named. -/
theorem fn_eq : fn (F := 𝕀) q p a2 a3 a4 a5 a6 a7 a8 a9
    = fn_part1 (F := 𝕀) (cmpf .olt (Host.absf p) (broadcastInDim S4x8192x3 ![] bcast_S_S4x8192x3
        (constant S_ .f32 0x7F800000#32))) (top q p).1 (top q p).2
      (extractStridedSlice S4x2048x16 ![0, 0, 0] (top q p).1 slices_S4x2048x17_S4x2048x16_0_0_0) := rfl

end Cert.Pre_separated.Decode
-- ==== Proof.Equation.lean ====
/- The equation: under the precondition the kernel's output array is the reference's result. -/
module

public import proofs.«01_k».proof.Proof.Row
public import proofs.«01_k».proof.Proof.KernelReads
public import proofs.«01_k».proof.Proof.Precondition

@[expose] public section

set_option maxRecDepth 16384

noncomputable section

namespace Cert.Equation

open Idealize.ShloMosaic Idealize.SL.Sem Cert.KernelIdeal Cert.KernelIdeal.Gen Cert.KernelIdeal.Block Cert.KernelIdeal.Reads
open Cert.ReferenceIdeal.Parts

local notation "𝕀" => Idealize.ShloMosaic.Ideal

/-- What the precondition says of a query array and a context array. -/
structure Separated (Q : FVec 𝕀 Cert.ReferenceIdeal.S4x2048x3 .f32) (X : FVec 𝕀 Cert.ReferenceIdeal.S4x8192x3 .f32) : Prop where
  finite : ∀ b j x, ∃ a : ℝ, X (ix3 b j x) = (a : EReal)
  strict : ∀ b s (k : Fin 16), negd Q X (ix3 b s (near Q X b s ⟨k.val + 1, by omega⟩))
    < negd Q X (ix3 b s (near Q X b s ⟨k.val, by omega⟩))
  lanes : ∀ b s (k : Fin 16), (Finset.univ.filter fun k' : Fin 16 => (near Q X b s ⟨k'.val, by omega⟩).val % 128
    = (near Q X b s ⟨k.val, by omega⟩).val % 128).card ≤ 3

/-- The precondition and the reference rank the same numbers. -/
theorem negd_same (Q : FVec 𝕀 Cert.ReferenceIdeal.S4x2048x3 .f32) (X : FVec 𝕀 Cert.ReferenceIdeal.S4x8192x3 .f32) (b : Fin 4)
    (s : Fin 2048) : (fun j : Fin 8192 => Cert.Pre_separated.Decode.negd Q X (ix3 b s j)) = fun j => negd Q X (ix3 b s j) :=
  funext fun j => (Cert.Pre_separated.Decode.negd_at Q X b s j).trans (negd_at Q X b s j).symm

section
variable (Q : FVec 𝕀 Cert.Pre_separated.S4x2048x3 .f32) (X : FVec 𝕀 Cert.Pre_separated.S4x8192x3 .f32)
variable (a2 : FVec 𝕀 Cert.Pre_separated.S3x128 .f32) (a3 : FVec 𝕀 Cert.Pre_separated.S128 .f32)
variable (a4 : FVec 𝕀 Cert.Pre_separated.S128x128 .f32) (a5 : FVec 𝕀 Cert.Pre_separated.S128 .f32)
variable (a6 : FVec 𝕀 Cert.Pre_separated.S131x128 .f32) (a7 : FVec 𝕀 Cert.Pre_separated.S128 .f32)
variable (a8 : FVec 𝕀 Cert.Pre_separated.S128x3 .f32) (a9 : FVec 𝕀 Cert.Pre_separated.S3 .f32)

/-- The precondition's three arrays of ones, decoded. -/
theorem separated_of
    (h1 : (Cert.Pre_separated.fn (F := 𝕀) Q X a2 a3 a4 a5 a6 a7 a8 a9).1 = fun _ => 1#1)
    (h2 : (Cert.Pre_separated.fn (F := 𝕀) Q X a2 a3 a4 a5 a6 a7 a8 a9).2.1 = fun _ => 1#1)
    (h3 : (Cert.Pre_separated.fn (F := 𝕀) Q X a2 a3 a4 a5 a6 a7 a8 a9).2.2 = fun _ => 1#1) : Separated Q X where
  finite b j x := by
    rw [Cert.Pre_separated.Decode.fn_eq] at h1
    exact Cert.Pre_separated.Decode.finite_of X (congrFun h1 (ix3 b j x))
  strict b s k := by
    rw [Cert.Pre_separated.Decode.fn_eq] at h2
    have h := Cert.Pre_separated.Decode.strict_of Q X (congrFun h2 (ix3 b s k))
    have e := negd_same Q X b s
    unfold Cert.Pre_separated.Decode.near at h
    rw [e] at h
    have e' := fun j => congrFun e j
    exact lt_of_eq_of_lt (e' _).symm (lt_of_lt_of_eq h (e' _))
  lanes b s k := by
    rw [Cert.Pre_separated.Decode.fn_eq] at h3
    have h := Cert.Pre_separated.Decode.lanes_of Q X (congrFun h3 (ix3 b s k))
    unfold Cert.Pre_separated.Decode.near at h
    rw [negd_same] at h
    exact h

end

/-- Under the precondition every query coordinate is a real number: an infinite one would leave but two values of distance. -/
theorem query_finite {Q : FVec 𝕀 Cert.ReferenceIdeal.S4x2048x3 .f32} {X : FVec 𝕀 Cert.ReferenceIdeal.S4x8192x3 .f32}
    (h : Separated Q X) (b : Fin 4) (s : Fin 2048) (x : Fin 3) : ∃ a : ℝ, Q (ix3 b s x) = (a : EReal) := by
  by_contra hn
  have hx : Q (ix3 b s x) = ⊤ ∨ Q (ix3 b s x) = ⊥ := by
    revert hn
    generalize Q (ix3 b s x) = z
    intro hn
    induction z using EReal.rec with
    | coe a => exact absurd ⟨a, rfl⟩ hn
    | bot => exact Or.inr rfl
    | top => exact Or.inl rfl
  choose t ht using h.finite b
  have two : ∀ j, negd Q X (ix3 b s j) = ⊤ ∨ negd Q X (ix3 b s j) = ⊥ := fun j => by
    have e : negd Q X (ix3 b s j) = Cert.Distances.neg (fun x => Q (ix3 b s x)) (fun x => (t j x : EReal)) := by
      unfold Cert.Distances.neg
      rw [negd_at]
      simp only [ht]
    rw [e]
    exact Cert.Distances.neg_infinite _ _ x hx
  have u0 := h.strict b s ⟨0, by omega⟩
  have u1 := h.strict b s ⟨1, by omega⟩
  rcases two (near Q X b s ⟨1, by omega⟩) with e | e
  · exact absurd (lt_of_eq_of_lt e.symm u0) not_top_lt
  · exact absurd (lt_of_lt_of_eq u1 e) not_lt_bot

/-- The reference's 131 columns of a query are its 128 features and its three offsets. -/
theorem sum_split (f : Fin 131 → EReal) :
    ∑ z : Fin 131, f z = ∑ y : Fin 128, f ⟨y.val, by omega⟩ + ∑ y : Fin 3, f ⟨128 + y.val, by omega⟩ :=
  Fin.sum_univ_add (a := 128) (b := 3) f

variable (m : (ℓ : Loc nD τ sig) → Buf (Elt 𝕀) ℓ) (c : Dev nD)

/-- The reference's result on the kernel's arguments. -/
abbrev goal : FVec 𝕀 Cert.ReferenceIdeal.S4x2048x3 .f32 :=
  out (m ((c.tc : Thread nD τ).loc main_arg0)) (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5))
    (m ((c.tc : Thread nD τ).loc main_arg6)) (m ((c.tc : Thread nD τ).loc main_arg7)) (m ((c.tc : Thread nD τ).loc main_arg8))
    (m ((c.tc : Thread nD τ).loc main_arg9))

/-- The point at which a grid point's batch has its table made. -/
def first (t : Fin cfg0.N) : Fin cfg0.N := ⟨2 * (t.val / 2), by have := t.isLt; omega⟩

theorem bat_first (t : Fin cfg0.N) : bat (first t) = bat t :=
  Fin.ext (show 2 * (t.val / 2) / 2 = t.val / 2 by omega)

/-- The table of a grid point holds the reference's features of its batch. -/
theorem table_features (t : Fin cfg0.N) (j : Fin 8192) (x : Fin 128) :
    (outsAt0 (F := 𝕀) m c t.val t.isLt).2 (ix2 j ⟨x.val, by omega⟩)
      = feat (m ((c.tc : Thread nD τ).loc main_arg1)) (m ((c.tc : Thread nD τ).loc main_arg2)) (m ((c.tc : Thread nD τ).loc main_arg3))
          (m ((c.tc : Thread nD τ).loc main_arg4)) (m ((c.tc : Thread nD τ).loc main_arg5)) (ix3 (bat t) j x) := by
  rw [scr_eq m c t (first t) rfl, table_feat, pay3_at, feat_at]
  simp only [ctx_at, w1_at, b1_at, w2_at, b2_at, bat_first]

/-- The table of a grid point holds its batch's context points. -/
theorem table_points (t : Fin cfg0.N) (j : Fin 8192) (x : Fin 3) :
    (outsAt0 (F := 𝕀) m c t.val t.isLt).2 (ix2 j ⟨128 + x.val, by omega⟩)
      = m ((c.tc : Thread nD τ).loc main_arg1) (ix3 (bat t) j x) := by
  rw [scr_eq m c t (first t) rfl, table_point, ctx_at, bat_first]

/-- The table's last column is one. -/
theorem table_ones (t : Fin cfg0.N) (j : Fin 8192) : (outsAt0 (F := 𝕀) m c t.val t.isLt).2 (ix2 j 131) = 1 := by
  rw [scr_eq m c t (first t) rfl, table_one]

/-- Every output block is the reference's result at its place. -/
theorem block_goal (h : Separated (m ((c.tc : Thread nD τ).loc main_arg0)) (m ((c.tc : Thread nD τ).loc main_arg1)))
    (t : Fin cfg0.N) (r : Fin 1024) (x : Fin 3) :
    (outsAt0 (F := 𝕀) m c t.val t.isLt).1 (ix3 0 r x) = goal m c (ix3 (bat t) (row t r) x) := by
  choose a ha using query_finite h (bat t) (row t r)
  choose p hp using h.finite (bat t)
  have A : Cert.Row.Agree (iblk m c 2 t) (iblk m c 0 t) r (m ((c.tc : Thread nD τ).loc main_arg0))
      (m ((c.tc : Thread nD τ).loc main_arg1)) (bat t) (row t r) a p :=
    { query := ha
      point := hp
      block := fun x => (q_at m c t r x).trans (ha x)
      scaled := fun j x => (pct_at m c t j x).trans (congrArg (Ideal.ofBits .f32 3221225472#32 * ·) (hp j x))
      strict := h.strict _ _
      lanes := h.lanes _ _ }
  have e1 := Cert.Row.feature_eq A _ _ (table_features m c t) (table_ones m c t)
  have e2 := Cert.Row.offset_eq A _ (feat (m ((c.tc : Thread nD τ).loc main_arg1)) (m ((c.tc : Thread nD τ).loc main_arg2))
    (m ((c.tc : Thread nD τ).loc main_arg3)) (m ((c.tc : Thread nD τ).loc main_arg4)) (m ((c.tc : Thread nD τ).loc main_arg5)))
    (table_points m c t) (table_ones m c t)
  rw [out_eq, block_at]
  unfold goal out
  rw [tail_at]
  simp only [sum_split, wv1_at, bv1_at, wv2_at, bv2_at, e1, e2]

/-- The kernel's output array is the reference's result. -/
theorem output_eq (h : Separated (m ((c.tc : Thread nD τ).loc main_arg0)) (m ((c.tc : Thread nD τ).loc main_arg1))) :
    (dats m 0 c).arrAt 11 cfg0.N = goal m c :=
  out_of_blocks m c _ (block_goal m c h)

end Cert.Equation
-- ==== Proof.lean ====
module

public import proofs.«01_k».proof.Defs
public import proofs.«01_k».proof.Proof.Equation
public import proofs.«01_k».proof.Proof.Gen.Kernel.Frame
public import proofs.«01_k».proof.Proof.Gen.KernelIdeal.Value
public import proofs.«01_k».proof.Proof.Gen.Pre_separated
public import proofs.«01_k».proof.Proof.Gen.ReferenceIdeal.Run
public import Idealize.ShloMosaic.Adequacy
public import Idealize.ShloMosaic.Init
public import Idealize.ShloMosaic.Lib.Quiescent

@[expose] public section

noncomputable section

namespace Cert.Proof

open Idealize.ShloMosaic Idealize.SL.Sem

/-- The reference runs, keeps its arguments, and leaves every counter at zero: it declares none. -/
theorem quiescent_ReferenceIdeal : quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

/-- The same where the precondition holds. -/
theorem quiescent_ReferenceIdeal_pre_separated : quiescent_ReferenceIdeal_pre_separated := fun m ρ _ =>
  quiescent_ReferenceIdeal m ρ trivial

/-- Where the precondition holds, the kernel and the reference end with equal results. -/
theorem algebraic : algebraic_KernelIdeal_ReferenceIdeal_pre_separated := by
  intro m ρ m' ρ' hpre hagree
  refine ⟨_, Cert.KernelIdeal.Value.run_blocks (F := Ideal) m ρ, ?_⟩
  refine (θ_run Cert.ReferenceIdeal.defs _ _).mono (fun _ h c => ⟨?_, (h c).2⟩) (Cert.ReferenceIdeal.Value.run (F := Ideal) m' ρ')
  obtain ⟨h0, h1, h2, h3, h4, h5, h6, h7, h8, h9⟩ := hagree c
  obtain ⟨p1, p2, p3⟩ := hpre c
  refine (h c).1.trans ?_
  rw [Cert.ReferenceIdeal.Parts.res_eq, h0, h1, h2, h3, h4, h5, h6, h7, h8, h9]
  exact (Cert.Equation.output_eq m c (Cert.Equation.separated_of _ _ _ _ _ _ _ _ _ _ p1 p2 p3)).symm

theorem claim : Cert.Claim := ⟨Cert.Kernel.Gen.facts, Cert.KernelIdeal.Gen.facts, Cert.ReferenceIdeal.Gen.facts, Cert.Pre_separated.Gen.facts,
  fun m ρ _ => Cert.Kernel.Gen.frame m ρ, fun m ρ _ => Cert.KernelIdeal.Gen.frame m ρ, fun m ρ _ => Cert.KernelIdeal.Gen.frame m ρ,
  quiescent_ReferenceIdeal, quiescent_ReferenceIdeal_pre_separated, (trivial : preserves_Kernel_KernelIdeal), algebraic⟩

end Cert.Proof

end
